-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 131072]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S32x2x256 : Shape := ⟨3, ![32, 2, 256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) (main_arg2 : FVec F S32x2x256 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x131072 : Shape := ⟨2, ![512, 131072]⟩
abbrev S32x2x256 : Shape := ⟨3, ![32, 2, 256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x131072 : S_.BroadcastsInDim S512x131072 (![] : Fin 0 → Fin S512x131072.rank)
  reducesTo_S512x131072_S_d0_1 : S512x131072.ReducesTo [0, 1] S_

variable [Facts]

def fn {F : FTy → Type} [FloatOps F] (main_arg0 : FVec F S256x512 .f32) (main_arg1 : FVec F S512x131072 .f32) (main_arg2 : FVec F S32x2x256 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x131072 .f32 := Host.absf main_arg1
  let main_cst_0 : FVec F S_ .f32 := constant S_ .f32 0x7F800000#32
  let main_v5 : FVec F S512x131072 .f32 := broadcastInDim S512x131072 ![] bcast_S_S512x131072 main_cst_0
  let main_v6 : IVec S512x131072 1 := cmpf .olt main_v4 main_v5
  let main_c_1 : IVec S_ 1 := constantI S_ 1 1#1
  let main_v7 : IVec S_ 1 := (fun x v => Host.reduce IntOp.andi x v reducesTo_S512x131072_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S32x2x256 : Shape := ⟨3, ![32, 2, 256]⟩
abbrev S256x131072 : Shape := ⟨2, ![256, 131072]⟩
abbrev S256x4096 : Shape := ⟨2, ![256, 4096]⟩
abbrev S2x256 : Shape := ⟨2, ![2, 256]⟩
abbrev S31 : Shape := ⟨1, ![31]⟩
abbrev S62 : Shape := ⟨1, ![62]⟩
abbrev S_ : Shape := ⟨0, ![]⟩
abbrev S256 : Shape := ⟨1, ![256]⟩
abbrev S256x1 : Shape := ⟨2, ![256, 1]⟩
abbrev S1x256 : Shape := ⟨2, ![1, 256]⟩
abbrev S32x1x256 : Shape := ⟨3, ![32, 1, 256]⟩
abbrev S32x256 : Shape := ⟨2, ![32, 256]⟩
abbrev S1 : Shape := ⟨1, ![1]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S32x2x256, .f32⟩
  | .hbm, ⟨3, _⟩ => ⟨S256x131072, .f32⟩
  | .local _ .vmem, ⟨0, _⟩ => ⟨S256x512, .f32⟩
  | .local _ .vmem, ⟨1, _⟩ => ⟨S512x4096, .f32⟩
  | .local _ .vmem, ⟨2, _⟩ => ⟨S32x2x256, .f32⟩
  | .local _ .vmem, ⟨3, _⟩ => ⟨S256x4096, .f32⟩
  | .local _ .vmem, ⟨4, _⟩ => ⟨S2x256, .f32⟩
  | _, _ => ⟨S256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 190 → Bool
  | ⟨i, _⟩ => dmaSemScopedAt i

abbrev sig : RefSig :=
  ofTc nBuf bufTy 0 190 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 32
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4096_i32 : BitVec 32 := 4096#32
  let v46 : BitVec 32 := Scalar.muli v2 c4096_i32
  ![0, v46.toNat]
def k0_off2 (d0 : Dev nD) (c0_i32_26 : BitVec 32) : Fin 2 → Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4096_i32_25 : BitVec 32 := 4096#32
  let v49 : BitVec 32 := Scalar.muli v2 c4096_i32_25
  let v50 : BitVec 32 := Scalar.addi v49 c0_i32_26
  ![0, v50.toNat]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_29 : BitVec 32 := 1#32
  let v51 : BitVec 32 := Scalar.muli v4 c1_i32_29
  let v52 : BitVec 32 := Scalar.addi c0_i32_30 v51
  v52.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_36 : BitVec 32 := 1#32
  let v61 : BitVec 32 := Scalar.muli v4 c1_i32_36
  let v62 : BitVec 32 := Scalar.addi c0_i32_37 v61
  v62.toNat
def k0_off3 (d0 : Dev nD) (c0_i32_40 : BitVec 32) (c0_i32_44 : BitVec 32) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v69 : BitVec 32 := Scalar.subi v2 c0_i32_40
  let c1_i32_41 : BitVec 32 := 1#32
  let v70 : BitVec 32 := Scalar.subi v69 c1_i32_41
  let c64_i32 : BitVec 32 := 64#32
  let v71 : BitVec 32 := Scalar.addi v70 c64_i32
  let c32_i32_42 : BitVec 32 := 32#32
  let v72 : BitVec 32 := Scalar.remsi v71 c32_i32_42
  let c4096_i32_43 : BitVec 32 := 4096#32
  let v73 : BitVec 32 := Scalar.muli v72 c4096_i32_43
  let v74 : BitVec 32 := Scalar.addi v73 c0_i32_44
  ![0, v74.toNat]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_54 : BitVec 32 := 1#32
  let v83 : BitVec 32 := Scalar.muli v4 c1_i32_54
  let v84 : BitVec 32 := Scalar.addi c0_i32_55 v83
  v84.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_69 : BitVec 32 := 1#32
  let v101 : BitVec 32 := Scalar.muli v4 c1_i32_69
  let v102 : BitVec 32 := Scalar.addi c0_i32_70 v101
  v102.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_88 : BitVec 32 := 1#32
  let v123 : BitVec 32 := Scalar.muli v4 c1_i32_88
  let v124 : BitVec 32 := Scalar.addi c0_i32_89 v123
  v124.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_103 : BitVec 32 := 1#32
  let v141 : BitVec 32 := Scalar.muli v4 c1_i32_103
  let v142 : BitVec 32 := Scalar.addi c0_i32_104 v141
  v142.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_122 : BitVec 32 := 1#32
  let v163 : BitVec 32 := Scalar.muli v4 c1_i32_122
  let v164 : BitVec 32 := Scalar.addi c0_i32_123 v163
  v164.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_137 : BitVec 32 := 1#32
  let v181 : BitVec 32 := Scalar.muli v4 c1_i32_137
  let v182 : BitVec 32 := Scalar.addi c0_i32_138 v181
  v182.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_156 : BitVec 32 := 1#32
  let v203 : BitVec 32 := Scalar.muli v4 c1_i32_156
  let v204 : BitVec 32 := Scalar.addi c0_i32_157 v203
  v204.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_171 : BitVec 32 := 1#32
  let v221 : BitVec 32 := Scalar.muli v4 c1_i32_171
  let v222 : BitVec 32 := Scalar.addi c0_i32_172 v221
  v222.toNat
def k0_dev11 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_190 : BitVec 32 := 1#32
  let v243 : BitVec 32 := Scalar.muli v4 c1_i32_190
  let v244 : BitVec 32 := Scalar.addi c0_i32_191 v243
  v244.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_205 : BitVec 32 := 1#32
  let v261 : BitVec 32 := Scalar.muli v4 c1_i32_205
  let v262 : BitVec 32 := Scalar.addi c0_i32_206 v261
  v262.toNat
def k0_dev13 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_224 : BitVec 32 := 1#32
  let v283 : BitVec 32 := Scalar.muli v4 c1_i32_224
  let v284 : BitVec 32 := Scalar.addi c0_i32_225 v283
  v284.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_239 : BitVec 32 := 1#32
  let v301 : BitVec 32 := Scalar.muli v4 c1_i32_239
  let v302 : BitVec 32 := Scalar.addi c0_i32_240 v301
  v302.toNat
def k0_dev15 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_258 : BitVec 32 := 1#32
  let v323 : BitVec 32 := Scalar.muli v4 c1_i32_258
  let v324 : BitVec 32 := Scalar.addi c0_i32_259 v323
  v324.toNat
def k0_dev16 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_273 : BitVec 32 := 1#32
  let v341 : BitVec 32 := Scalar.muli v4 c1_i32_273
  let v342 : BitVec 32 := Scalar.addi c0_i32_274 v341
  v342.toNat
def k0_dev17 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_292 : BitVec 32 := 1#32
  let v363 : BitVec 32 := Scalar.muli v4 c1_i32_292
  let v364 : BitVec 32 := Scalar.addi c0_i32_293 v363
  v364.toNat
def k0_dev18 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_307 : BitVec 32 := 1#32
  let v381 : BitVec 32 := Scalar.muli v4 c1_i32_307
  let v382 : BitVec 32 := Scalar.addi c0_i32_308 v381
  v382.toNat
def k0_dev19 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_326 : BitVec 32 := 1#32
  let v403 : BitVec 32 := Scalar.muli v4 c1_i32_326
  let v404 : BitVec 32 := Scalar.addi c0_i32_327 v403
  v404.toNat
def k0_dev20 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_341 : BitVec 32 := 1#32
  let v421 : BitVec 32 := Scalar.muli v4 c1_i32_341
  let v422 : BitVec 32 := Scalar.addi c0_i32_342 v421
  v422.toNat
def k0_dev21 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_360 : BitVec 32 := 1#32
  let v443 : BitVec 32 := Scalar.muli v4 c1_i32_360
  let v444 : BitVec 32 := Scalar.addi c0_i32_361 v443
  v444.toNat
def k0_dev22 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_375 : BitVec 32 := 1#32
  let v461 : BitVec 32 := Scalar.muli v4 c1_i32_375
  let v462 : BitVec 32 := Scalar.addi c0_i32_376 v461
  v462.toNat
def k0_dev23 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_394 : BitVec 32 := 1#32
  let v483 : BitVec 32 := Scalar.muli v4 c1_i32_394
  let v484 : BitVec 32 := Scalar.addi c0_i32_395 v483
  v484.toNat
def k0_dev24 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_409 : BitVec 32 := 1#32
  let v501 : BitVec 32 := Scalar.muli v4 c1_i32_409
  let v502 : BitVec 32 := Scalar.addi c0_i32_410 v501
  v502.toNat
def k0_dev25 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_428 : BitVec 32 := 1#32
  let v523 : BitVec 32 := Scalar.muli v4 c1_i32_428
  let v524 : BitVec 32 := Scalar.addi c0_i32_429 v523
  v524.toNat
def k0_dev26 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_443 : BitVec 32 := 1#32
  let v541 : BitVec 32 := Scalar.muli v4 c1_i32_443
  let v542 : BitVec 32 := Scalar.addi c0_i32_444 v541
  v542.toNat
def k0_dev27 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_462 : BitVec 32 := 1#32
  let v563 : BitVec 32 := Scalar.muli v4 c1_i32_462
  let v564 : BitVec 32 := Scalar.addi c0_i32_463 v563
  v564.toNat
def k0_dev28 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_477 : BitVec 32 := 1#32
  let v581 : BitVec 32 := Scalar.muli v4 c1_i32_477
  let v582 : BitVec 32 := Scalar.addi c0_i32_478 v581
  v582.toNat
def k0_dev29 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_496 : BitVec 32 := 1#32
  let v603 : BitVec 32 := Scalar.muli v4 c1_i32_496
  let v604 : BitVec 32 := Scalar.addi c0_i32_497 v603
  v604.toNat
def k0_dev30 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_511 : BitVec 32 := 1#32
  let v621 : BitVec 32 := Scalar.muli v4 c1_i32_511
  let v622 : BitVec 32 := Scalar.addi c0_i32_512 v621
  v622.toNat
def k0_dev31 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_530 : BitVec 32 := 1#32
  let v643 : BitVec 32 := Scalar.muli v4 c1_i32_530
  let v644 : BitVec 32 := Scalar.addi c0_i32_531 v643
  v644.toNat
def k0_dev32 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_545 : BitVec 32 := 1#32
  let v661 : BitVec 32 := Scalar.muli v4 c1_i32_545
  let v662 : BitVec 32 := Scalar.addi c0_i32_546 v661
  v662.toNat
def k0_dev33 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_565 : BitVec 32 := 1#32
  let v683 : BitVec 32 := Scalar.muli v4 c1_i32_565
  let v684 : BitVec 32 := Scalar.addi c0_i32_566 v683
  v684.toNat
def k0_dev34 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_580 : BitVec 32 := 1#32
  let v701 : BitVec 32 := Scalar.muli v4 c1_i32_580
  let v702 : BitVec 32 := Scalar.addi c0_i32_581 v701
  v702.toNat
def k0_dev35 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_599 : BitVec 32 := 1#32
  let v723 : BitVec 32 := Scalar.muli v4 c1_i32_599
  let v724 : BitVec 32 := Scalar.addi c0_i32_600 v723
  v724.toNat
def k0_dev36 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_614 : BitVec 32 := 1#32
  let v741 : BitVec 32 := Scalar.muli v4 c1_i32_614
  let v742 : BitVec 32 := Scalar.addi c0_i32_615 v741
  v742.toNat
def k0_dev37 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_633 : BitVec 32 := 1#32
  let v763 : BitVec 32 := Scalar.muli v4 c1_i32_633
  let v764 : BitVec 32 := Scalar.addi c0_i32_634 v763
  v764.toNat
def k0_dev38 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_648 : BitVec 32 := 1#32
  let v781 : BitVec 32 := Scalar.muli v4 c1_i32_648
  let v782 : BitVec 32 := Scalar.addi c0_i32_649 v781
  v782.toNat
def k0_dev39 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_667 : BitVec 32 := 1#32
  let v803 : BitVec 32 := Scalar.muli v4 c1_i32_667
  let v804 : BitVec 32 := Scalar.addi c0_i32_668 v803
  v804.toNat
def k0_dev40 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_682 : BitVec 32 := 1#32
  let v821 : BitVec 32 := Scalar.muli v4 c1_i32_682
  let v822 : BitVec 32 := Scalar.addi c0_i32_683 v821
  v822.toNat
def k0_dev41 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_701 : BitVec 32 := 1#32
  let v843 : BitVec 32 := Scalar.muli v4 c1_i32_701
  let v844 : BitVec 32 := Scalar.addi c0_i32_702 v843
  v844.toNat
def k0_dev42 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_716 : BitVec 32 := 1#32
  let v861 : BitVec 32 := Scalar.muli v4 c1_i32_716
  let v862 : BitVec 32 := Scalar.addi c0_i32_717 v861
  v862.toNat
def k0_dev43 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_735 : BitVec 32 := 1#32
  let v883 : BitVec 32 := Scalar.muli v4 c1_i32_735
  let v884 : BitVec 32 := Scalar.addi c0_i32_736 v883
  v884.toNat
def k0_dev44 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_750 : BitVec 32 := 1#32
  let v901 : BitVec 32 := Scalar.muli v4 c1_i32_750
  let v902 : BitVec 32 := Scalar.addi c0_i32_751 v901
  v902.toNat
def k0_dev45 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_769 : BitVec 32 := 1#32
  let v923 : BitVec 32 := Scalar.muli v4 c1_i32_769
  let v924 : BitVec 32 := Scalar.addi c0_i32_770 v923
  v924.toNat
def k0_dev46 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_784 : BitVec 32 := 1#32
  let v941 : BitVec 32 := Scalar.muli v4 c1_i32_784
  let v942 : BitVec 32 := Scalar.addi c0_i32_785 v941
  v942.toNat
def k0_dev47 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_803 : BitVec 32 := 1#32
  let v963 : BitVec 32 := Scalar.muli v4 c1_i32_803
  let v964 : BitVec 32 := Scalar.addi c0_i32_804 v963
  v964.toNat
def k0_dev48 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_818 : BitVec 32 := 1#32
  let v981 : BitVec 32 := Scalar.muli v4 c1_i32_818
  let v982 : BitVec 32 := Scalar.addi c0_i32_819 v981
  v982.toNat
def k0_dev49 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_837 : BitVec 32 := 1#32
  let v1003 : BitVec 32 := Scalar.muli v4 c1_i32_837
  let v1004 : BitVec 32 := Scalar.addi c0_i32_838 v1003
  v1004.toNat
def k0_dev50 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_852 : BitVec 32 := 1#32
  let v1021 : BitVec 32 := Scalar.muli v4 c1_i32_852
  let v1022 : BitVec 32 := Scalar.addi c0_i32_853 v1021
  v1022.toNat
def k0_dev51 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_871 : BitVec 32 := 1#32
  let v1043 : BitVec 32 := Scalar.muli v4 c1_i32_871
  let v1044 : BitVec 32 := Scalar.addi c0_i32_872 v1043
  v1044.toNat
def k0_dev52 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_886 : BitVec 32 := 1#32
  let v1061 : BitVec 32 := Scalar.muli v4 c1_i32_886
  let v1062 : BitVec 32 := Scalar.addi c0_i32_887 v1061
  v1062.toNat
def k0_dev53 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_905 : BitVec 32 := 1#32
  let v1083 : BitVec 32 := Scalar.muli v4 c1_i32_905
  let v1084 : BitVec 32 := Scalar.addi c0_i32_906 v1083
  v1084.toNat
def k0_dev54 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_920 : BitVec 32 := 1#32
  let v1101 : BitVec 32 := Scalar.muli v4 c1_i32_920
  let v1102 : BitVec 32 := Scalar.addi c0_i32_921 v1101
  v1102.toNat
def k0_dev55 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_939 : BitVec 32 := 1#32
  let v1123 : BitVec 32 := Scalar.muli v4 c1_i32_939
  let v1124 : BitVec 32 := Scalar.addi c0_i32_940 v1123
  v1124.toNat
def k0_dev56 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_954 : BitVec 32 := 1#32
  let v1141 : BitVec 32 := Scalar.muli v4 c1_i32_954
  let v1142 : BitVec 32 := Scalar.addi c0_i32_955 v1141
  v1142.toNat
def k0_dev57 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_973 : BitVec 32 := 1#32
  let v1163 : BitVec 32 := Scalar.muli v4 c1_i32_973
  let v1164 : BitVec 32 := Scalar.addi c0_i32_974 v1163
  v1164.toNat
def k0_dev58 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_988 : BitVec 32 := 1#32
  let v1181 : BitVec 32 := Scalar.muli v4 c1_i32_988
  let v1182 : BitVec 32 := Scalar.addi c0_i32_989 v1181
  v1182.toNat
def k0_dev59 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1007 : BitVec 32 := 1#32
  let v1203 : BitVec 32 := Scalar.muli v4 c1_i32_1007
  let v1204 : BitVec 32 := Scalar.addi c0_i32_1008 v1203
  v1204.toNat
def k0_dev60 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1022 : BitVec 32 := 1#32
  let v1221 : BitVec 32 := Scalar.muli v4 c1_i32_1022
  let v1222 : BitVec 32 := Scalar.addi c0_i32_1023 v1221
  v1222.toNat
def k0_dev61 (d0 : Dev nD) : Nat :=
  let c0_i32_1042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1041 : BitVec 32 := 1#32
  let v1243 : BitVec 32 := Scalar.muli v4 c1_i32_1041
  let v1244 : BitVec 32 := Scalar.addi c0_i32_1042 v1243
  v1244.toNat
def k0_dev62 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1056 : BitVec 32 := 1#32
  let v1261 : BitVec 32 := Scalar.muli v4 c1_i32_1056
  let v1262 : BitVec 32 := Scalar.addi c0_i32_1057 v1261
  v1262.toNat
def k0_off4 (d0 : Dev nD) (c0_i32_1080 : BitVec 32) (c0_i32_1084 : BitVec 32) : Fin 2 → Nat :=
  let c0_i32_1088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1289 : BitVec 32 := Scalar.subi v2 c0_i32_1080
  let c64_i32_1081 : BitVec 32 := 64#32
  let v1290 : BitVec 32 := Scalar.addi v1289 c64_i32_1081
  let c32_i32_1082 : BitVec 32 := 32#32
  let v1291 : BitVec 32 := Scalar.remsi v1290 c32_i32_1082
  let c4096_i32_1083 : BitVec 32 := 4096#32
  let v1292 : BitVec 32 := Scalar.muli v1291 c4096_i32_1083
  let v1293 : BitVec 32 := Scalar.addi v1292 c0_i32_1084
  ![0, v1293.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x131072 : Shape := ⟨2, ![512, 131072]⟩
abbrev S32x2x256 : Shape := ⟨3, ![32, 2, 256]⟩
abbrev S256x131072 : Shape := ⟨2, ![256, 131072]⟩
abbrev S32x1x256 : Shape := ⟨3, ![32, 1, 256]⟩
abbrev S32x256 : Shape := ⟨2, ![32, 256]⟩
abbrev S_ : Shape := ⟨0, ![]⟩
abbrev S256 : Shape := ⟨1, ![256]⟩
abbrev S1x256 : Shape := ⟨2, ![1, 256]⟩
abbrev S256x1 : Shape := ⟨2, ![256, 1]⟩

abbrev nBuf : Space → Nat
  | .hbm => 26
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x131072, .f32⟩
  | .hbm, ⟨2, _⟩ => ⟨S32x2x256, .f32⟩
  | .hbm, ⟨3, _⟩ => ⟨S256x131072, .f32⟩
  | .hbm, ⟨4, _⟩ => ⟨S32x1x256, .f32⟩
  | .hbm, ⟨5, _⟩ => ⟨S32x256, .f32⟩
  | .hbm, ⟨6, _⟩ => ⟨S_, .f32⟩
  | .hbm, ⟨7, _⟩ => ⟨S256, .f32⟩
  | .hbm, ⟨8, _⟩ => ⟨S32x1x256, .f32⟩
  | .hbm, ⟨9, _⟩ => ⟨S32x256, .f32⟩
  | .hbm, ⟨10, _⟩ => ⟨S32x1x256, .f32⟩
  | .hbm, ⟨11, _⟩ => ⟨S32x256, .f32⟩
  | .hbm, ⟨12, _⟩ => ⟨S1x256, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S32x256, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S256x131072, .f32⟩
  | .hbm, ⟨21, _⟩ => ⟨S256x131072, .f32⟩
  | .hbm, ⟨22, _⟩ => ⟨S256x131072, .f32⟩
  | .hbm, ⟨23, _⟩ => ⟨S256x1, .f32⟩
  | .hbm, ⟨24, _⟩ => ⟨S256x131072, .f32⟩
  | .hbm, ⟨25, _⟩ => ⟨S256x131072, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Prog.lean ====
/-
  The kernel body as a program over the ring's 62 half-block transfers: the loads, payload stores and the local copy
  first, then the ring — two sends, sixty steps of one receive and one send, the last two receives, and the 62 waits
  for the sends — written as recursions over the transfer's number.
-/
module

public import proofs.«01_k».proof.Defs
public import Idealize.ShloMosaic.Lib.Pipeline.Launch
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.TcCoe
open Idealize.SL.Sem

variable {F : FTy → Type} [FloatOps F]

/-! ## The ring's semaphores and views -/

set_option backward.proofsInPublic true in
/-- Transfer `f`'s send semaphore -/
def sndQ (f : ℕ) : DmaSem sig := ⟨65 + f % 62, by have := Nat.mod_lt f (show 0 < 62 by decide); show 65 + f % 62 < 190; omega⟩
set_option backward.proofsInPublic true in
/-- and its receive semaphore. -/
def rcvQ (f : ℕ) : DmaSem sig := ⟨127 + f % 62, by have := Nat.mod_lt f (show 0 < 62 by decide); show 127 + f % 62 < 190; omega⟩
set_option backward.proofsInPublic true in
/-- The local copy's semaphore. -/
def locQ : DmaSem sig := ⟨189, by decide⟩

/-- The result array of 131072 columns, whole. -/
abbrev oM : Memref sig .tc .hbm S256x131072 .f32 := Memref.whole main_v1

/-- Its half block of 2048 columns at the offsets `off`. -/
abbrev half (off : Fin 2 → ℕ) (h : ∀ a, off a + S256x2048.size a ≤ S256x131072.size a) : Memref sig .tc .hbm S256x2048 .f32 :=
  oM.slice (Rect.unit (s := S256x131072) off S256x2048.size h) (fun _ => rfl)

/-- One send of the half block at `off` to the same place on device `n`, as transfer `f`. -/
abbrev sendH (n : Dev nD) (off : Fin 2 → ℕ) (h : ∀ a, off a + S256x2048.size a ≤ S256x131072.size a) (f : ℕ) :
    TpuEff nD τ sig (Elt F) Λ₀ .tc PUnit :=
  .enqueueDma (half off h) (.remote (Dev.tc n) (half off h) (.dma (sndQ f))) (.dma (rcvQ f)) (View.wordExact_bits rfl) (View.wordExact_bits rfl) ⟨⟨rfl, Or.inl rfl⟩, trivial⟩

/-- One wait on `q` for a half block. -/
abbrev waitH (q : DmaSem sig) (off : Fin 2 → ℕ) (h : ∀ a, off a + S256x2048.size a ≤ S256x131072.size a) :
    TpuEff nD τ sig (Elt F) Λ₀ .tc PUnit :=
  .waitDma2 q (half off h) (half off h) (View.wordExact_bits rfl) (View.wordExact_bits rfl)

/-! ## The ring -/

set_option backward.proofsInPublic true in
/-- The device every send of device `d` is addressed to. -/
abbrev tgt (d : Dev nD) : Dev nD := ⟨k0_dev1 d, k0_dev1_lt d⟩

/-- The offsets of the half block device `d` receives as transfer `f` (and passes on as transfer `f + 2`), as the kernel
    computes them, -/
abbrev roff (d : Dev nD) (f : ℕ) : Fin 2 → ℕ := k0_off3 d (BitVec.ofNat 32 (f / 2 % 31)) (BitVec.ofNat 32 (2048 * (f % 2)))
theorem roff_inb (d : Dev nD) (f : ℕ) : ∀ a, roff d f a + S256x2048.size a ≤ S256x131072.size a :=
  k0_off3_inb d ⟨f / 2 % 31, Nat.mod_lt _ (by decide)⟩ ⟨f % 2, Nat.mod_lt _ (by decide)⟩
/-- of the half block whose send it waits for, -/
abbrev woff (d : Dev nD) (f : ℕ) : Fin 2 → ℕ := k0_off4 d (BitVec.ofNat 32 (f / 2 % 31)) (BitVec.ofNat 32 (2048 * (f % 2)))
theorem woff_inb (d : Dev nD) (f : ℕ) : ∀ a, woff d f a + S256x2048.size a ≤ S256x131072.size a :=
  k0_off4_inb d ⟨f / 2 % 31, Nat.mod_lt _ (by decide)⟩ ⟨f % 2, Nat.mod_lt _ (by decide)⟩
/-- and of the two halves of its own block. -/
abbrev soff (d : Dev nD) (f : ℕ) : Fin 2 → ℕ := k0_off2 d (BitVec.ofNat 32 (2048 * (f % 2)))
theorem soff_inb (d : Dev nD) (f : ℕ) : ∀ a, soff d f a + S256x2048.size a ≤ S256x131072.size a :=
  k0_off2_inb d ⟨f % 2, Nat.mod_lt _ (by decide)⟩

/-- `n` steps of the ring from transfer `f` on: receive `f`, pass it on as `f + 2`. -/
def ringSteps (d : Dev nD) : ℕ → ℕ → Prog (TpuEff nD τ sig (Elt F) Λ₀ .tc) PUnit → Prog (TpuEff nD τ sig (Elt F) Λ₀ .tc) PUnit
  | 0, _, k => k
  | n + 1, f, k => .op (waitH (rcvQ f) (roff d f) (roff_inb d f)) fun _ =>
      .op (sendH (tgt d) (roff d f) (roff_inb d f) (f + 2)) fun _ => ringSteps d n (f + 1) k

/-- `n` waits for sends, from transfer `f` on. -/
def sendWaits (d : Dev nD) : ℕ → ℕ → Prog (TpuEff nD τ sig (Elt F) Λ₀ .tc) PUnit
  | 0, _ => .ret ⟨⟩
  | n + 1, f => .op (waitH (sndQ f) (woff d f) (woff_inb d f)) fun _ => sendWaits d n (f + 1)

/-- The ring on device `d`. -/
def ringProg (d : Dev nD) : Prog (TpuEff nD τ sig (Elt F) Λ₀ .tc) PUnit :=
  .op (sendH (tgt d) (soff d 0) (soff_inb d 0) 0) fun _ =>
  .op (sendH (tgt d) (soff d 1) (soff_inb d 1) 1) fun _ =>
  ringSteps d 60 0
    (.op (waitH (rcvQ 60) (roff d 60) (roff_inb d 60)) fun _ =>
      .op (waitH (rcvQ 61) (roff d 61) (roff_inb d 61)) fun _ => sendWaits d 62 0)

/-- The chunk, as the kernel's memref, and the device's whole block of the result. -/
abbrev chM : Memref sig .tc .vmem S256x4096 .f32 := Memref.whole cc0_scratch0
abbrev blkM (off : Fin 2 → ℕ) (h : ∀ a, off a + S256x4096.size a ≤ S256x131072.size a) : Memref sig .tc .hbm S256x4096 .f32 :=
  oM.slice (Rect.unit (s := S256x131072) off S256x4096.size h) (fun _ => rfl)

/-- The kernel body: the first part as printed; the chunk scaled; the local copy and its wait; the ring. -/
def bodyProg : Prog (TpuEff nD τ sig (Elt F) Λ₀ .tc) PUnit :=
  (k0_part1_skel (F := F) (Memref.whole cc0_stg0_0) (Memref.isWhole_whole _) (Memref.whole cc0_stg1_0) (Memref.isWhole_whole _)
    (Memref.whole cc0_stg2_0) (Memref.isWhole_whole _) oM (Memref.isWhole_whole _) chM (Memref.isWhole_whole _)
    (Memref.whole cc0_scratch1) (Memref.isWhole_whole _) cc0_scratch2 cc0_scratch3 cc0_scratch4 cc0_scratch5 cc0_scratch6) >>= fun r =>
  .op (.load chM (Rect.unit (s := S256x4096) ![0, 0] S256x4096.size inb_S256x4096_S256x4096_0_0).toLoadRect (View.loadsAt_vmem h_S256x4096)) fun v39 =>
  .op (.load chM (Rect.unit (s := S256x4096) ![0, 0] S256x4096.size inb_S256x4096_S256x4096_0_0).toLoadRect (View.loadsAt_vmem h_S256x4096)) fun _ =>
  .op (.store chM (Rect.unit (s := S256x4096) ![0, 0] S256x4096.size inb_S256x4096_S256x4096_0_0)
    (k0_pay11 r.2.2.2.1 r.2.2.2.2.1 r.2.2.2.2.2.1 r.2.2.2.2.2.2.1 r.2.2.2.2.2.2.2 v39) Finset.univ (View.stores_vmem_bits_univ h_S256x4096 rfl) (.inl rfl)) fun _ =>
  .op (.enqueueDma chM (.here (blkM (k0_off1 r.1) (k0_off1_inb r.1))) (.dma locQ) (Memref.isWhole_whole _).wordExact (View.wordExact_bits rfl) ⟨Or.inl rfl, trivial⟩) fun _ =>
  .op (.waitDma2 locQ chM (blkM (k0_off1 r.1) (k0_off1_inb r.1)) (Memref.isWhole_whole _).wordExact (View.wordExact_bits rfl)) fun _ =>
  ringProg r.1

/-- The printed body is that program. -/
theorem body_eq :
    cc0_body (F := F) (Memref.whole cc0_stg0_0) (Memref.isWhole_whole _) (Memref.whole cc0_stg1_0) (Memref.isWhole_whole _)
      (Memref.whole cc0_stg2_0) (Memref.isWhole_whole _) oM (Memref.isWhole_whole _) chM (Memref.isWhole_whole _)
      (Memref.whole cc0_scratch1) (Memref.isWhole_whole _) cc0_scratch2 cc0_scratch3 cc0_scratch4 cc0_scratch5 cc0_scratch6 = bodyProg := by
  rewrite [cc0_body_eq_skeleton]
  chain_rfl

end Cert.Proof

end
-- ==== Proof.Start.lean ====
/-
  From the kernel body to the whole run. Device `c`'s first send lands in the next device's result array, and no
  signal precedes it: so the pieces of every device's result array are dealt around the ring before any device starts
  (`hdeal`, which is handed every device's own semaphores at zero and its result array). The resource algebra is two
  copies of the rounds library's: the pipeline's staging cells and the ring's cells.
-/
module

public import proofs.«01_k».proof.Proof.Prog
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

/-! ## The resource algebra -/

/-- The rounds algebra over the program's cells, its duties nameless, -/
abbrev UOne : Type := URounds (GSem nD τ sig) Unit
/-- taken twice: for the staging cells and for the ring's. -/
abbrev UTwo : Type := UOne × UOne

local notation "𝕄" => MT nD τ sig Unit (Elt F) ℕ UTwo ℕ

/-- Where the staging cells' copy sits, -/
def stgE : Emb UOne (MT nD τ sig Unit (Elt F) ℕ UTwo ℕ) :=
  (Emb.inl : Emb UOne UTwo).trans (uEmb (nD := nD) (τ := τ) (sig := sig) (Ix := Unit) (Val := Elt F) (Name := ℕ) (U := UTwo) (Lvl := ℕ)).toEmb
/-- and the ring's. -/
def rngE : Emb UOne (MT nD τ sig Unit (Elt F) ℕ UTwo ℕ) :=
  (Emb.inr : Emb UOne UTwo).trans (uEmb (nD := nD) (τ := τ) (sig := sig) (Ix := Unit) (Val := Elt F) (Name := ℕ) (U := UTwo) (Lvl := ℕ)).toEmb

instance stgE_lands : (stgE : Emb UOne 𝕄).LandsIn (upEmb : UEmb _ 𝕄) := by unfold stgE; infer_instance
instance rngE_lands : (rngE : Emb UOne 𝕄).LandsIn (upEmb : UEmb _ 𝕄) := by unfold rngE; infer_instance

omit [FloatOps F] in
theorem two_split (x y : UOne) : (ownU (x, y) : sProp 𝕄) ⊢ iprop(BI.own (stgE x) ∗ BI.own (rngE y)) :=
  BI.own_op_elim ((uEmb (nD := nD) (τ := τ) (sig := sig) (Ix := Unit) (Val := Elt F) (Name := ℕ) (U := UTwo) (Lvl := ℕ)).toEmb.op_of_mem
    (Prod.mk_mem_op (URA.mem_op_one x) (URA.mem_one_op y)))

/-! ## The kernel's own semaphores -/

/-- The 187 semaphores no window stages through: two per ring transfer, the local copy's, and the idle rest. -/
abbrev osem : Fin 187 → SemLoc sig := fun k => .dma ⟨3 + k.val, by have := k.isLt; show 3 + k.val < 190; omega⟩

theorem ownFacts : OwnSemFacts spec0 osem where
  isScoped := by decide
  inj a b h := by
    have h1 : (⟨3 + a.val, _⟩ : DmaSem sig) = ⟨3 + b.val, _⟩ := SemLoc.dma.inj h
    have h2 : 3 + a.val = 3 + b.val := congrArg Fin.val h1
    exact Fin.ext (by omega)
  disj k w s h := by
    have h1 := congrArg Fin.val (SemLoc.dma.inj h)
    have h2 : ∀ (w : Fin 3) (s : Fin (spec0 w).nbuf), ((spec0 w).sem s).val < 3 := by decide
    have h3 := h2 w s
    have h4 : 3 + k.val = ((spec0 w).sem s).val := h1
    omega

/-! ## The run -/

section Run

variable (m : (ℓ : Loc nD τ sig) → Buf (Elt F) ℓ) (ρ : Dev nD → PrngReg)
variable (dats : (p : Fin 1) → (c : Dev nD) → Dat τ (Elt F) Unit ℕ UTwo ℕ (cfgs p) c)
variable (O₀ : Dev nD → CellTallies nD τ sig Unit) (L : GSem nD τ sig → Finset Unit) (lv : GSem nD τ sig → Unit → ℕ)
variable (G' : Dev nD → sProp (MT nD τ sig Unit (Elt F) ℕ UTwo ℕ)) (X : Dev nD → sProp (MT nD τ sig Unit (Elt F) ℕ UTwo ℕ)) (Y : Dev nD → sProp (MT nD τ sig Unit (Elt F) ℕ UTwo ℕ))

local notation "pcs" => fun p : Fin 1 => Cfg.toPCfg (Val := Elt F) (cfgs p)
local notation "adm" => fun (_ : Dev nD) (p : Fin 1) => Cfg.toPCfg_adm (Val := Elt F) (cfgs p)
local notation "cs" => fun _ : Dev nD => cfgs

/-- The idle semaphores of device `c` at zero. -/
def idle (c : Dev nD) : sProp 𝕄 := PerCore.idleSems0 cs cellOf_inj (0 : Fin 1) (fun _ => ownFacts) c

/-- The windows' arrays of device `c` as launched. -/
def arrs (c : Dev nD) : sProp 𝕄 :=
  bigSep Finset.univ fun w : Fin 3 => ((c : Thread nD τ).loc (arrRef spec0 w)) ↦{fullShare} m ((c : Thread nD τ).loc (arrRef spec0 w))

/-- The result array of device `c` as launched. -/
def res (c : Dev nD) : sProp 𝕄 := ((c : Thread nD τ).loc main_v1) ↦{fullShare} m ((c : Thread nD τ).loc main_v1)

/-- What device `c` starts from, -/
def held (c : Dev nD) : sProp 𝕄 :=
  iprop((scopedBufs (c : Thread nD τ) ∗ PerCore.cellsSems0 cs (0 : Fin 1) c ∗ idle c) ∗ arrs m c
    ∗ owes (c : Thread nD τ) (O₀ c) ∅ ∗ levAts L lv ∗ launchCred O₀ c
    ∗ PerCore.cellsGhost cs stgE (0 : Fin 1) c ∗ PerCore.toksInit cs stgE (0 : Fin 1) c ∗ G' c)

/-- and what it ends with. -/
def left (c : Dev nD) : sProp 𝕄 :=
  iprop((dats 0 c).arrays ((dats 0 c).arrAt · cfg0.N) ∗ Y c ∗ scopedSems0 (c : Thread nD τ))

/-- One device's launch state, sorted. -/
theorem core_sort (c : Dev nD) :
    coreInit (Ix := Unit) (Name := ℕ) (U := UTwo) (Lvl := ℕ) (owing O₀) 0 (⟨m, fun _ => 0, ρ⟩ : MemSt nD τ sig (Elt F)) (c : Thread nD τ)
      ⊢ iprop((scopedBufs (c : Thread nD τ) ∗ PerCore.cellsSems0 cs (0 : Fin 1) c ∗ idle c) ∗ arrs m c
          ∗ owes (c : Thread nD τ) (O₀ c) ∅ ∗ launchCred O₀ c ∗ levels0 c ∗ ownSems0 osem c ∗ res m c) := by
  refine (coreInit_boundary_owing O₀ m ρ c).trans ?_
  have hs := PerCore.scopedSems0_split cs cellOf_inj (0 : Fin 1) (fun _ => winFacts0.to₀) (fun _ => ownFacts)
    (Ix := Unit) (Val := Elt F) (Name := ℕ) (U := UTwo) (Lvl := ℕ) c
  have hu := PerCore.unscopedBufs_split cs (0 : Fin 1) c winFacts0.arr_unscoped winFacts0.arr_inj
    (Ix := Unit) (Name := ℕ) (U := UTwo) (Lvl := ℕ) (fun b => m ((c : Thread nD τ).loc b))
  unfold boundary idle arrs res
  rw [hs, hu]
  have hr := unscopedRest0_eq (Ix := Unit) (Name := ℕ) (U := UTwo) (Lvl := ℕ) c (fun b => m ((c : Thread nD τ).loc b))
  iintro ⟨⟨Hsc, ⟨⟨Hcells, Hos⟩, Hidle⟩, -⟩, ⟨Harr, Hres⟩, -, HO, Hlv, -, Hcr⟩
  ihave Hres' := (Entails.of_eq hr) $$ Hres
  isplitl [Hsc Hcells Hidle]
  · isplitl [Hsc]; · iexact Hsc
    isplitl [Hcells] <;> iassumption
  isplitl [Harr]; · iexact Harr
  isplitl [HO]; · iexact HO
  isplitl [Hcr]; · iexact Hcr
  isplitl [Hlv]; · iexact Hlv
  isplitl [Hos]; · iexact Hos
  iexact Hres'

omit [FloatOps F] in
/-- The levels of every cell, fixed once. -/
theorem levels_fix (hL : ∀ g : GSem nD τ sig, g.1.2 ≠ .tc → L g = ∅) :
    (bigSep Finset.univ fun c : Dev nD => levels0 (Ix := Unit) (Val := Elt F) (Name := ℕ) (U := UTwo) (Lvl := ℕ) (τ := τ) (sig := sig) c) ⊢ (|==> levAts L lv : sProp 𝕄) := by
  refine (bigSep_mono fun (c : Dev nD) _ => lev_assign_cells (Val := Elt F) (Name := ℕ) (U := UTwo) (c : Thread nD τ) L lv).trans ((BI.bigSep_bupd _ _).trans (BI.bupd_mono ?_))
  have hoff : ∀ t : Thread nD τ, t.2 ≠ .tc → (coreLevAts t L lv : sProp 𝕄) = BI.emp := fun t ht => by
    unfold coreLevAts
    rw [bigSep_congr (Ψ := fun _ : SemLoc sig => (BI.emp : sProp 𝕄)) fun sm _ => by rw [hL (t, sm) ht, BI.bigSep_empty], BI.bigSep_emp_const]
  rw [show (levAts L lv : sProp 𝕄) = bigSep Finset.univ fun t : Thread nD τ => coreLevAts t L lv
      from bigSep_univ_prod fun g : GSem nD τ sig => bigSep (L g) fun ι => levAt g ι (lv g ι),
    bigSep_threads (fun t : Thread nD τ => coreLevAts t L lv), bigSep_sep']
  have hz : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun q hq => hoff (d, q) (Finset.ne_of_mem_erase hq)).trans (BI.bigSep_emp_const _),
      BI.bigSep_emp_const]
  rw [hz]
  have hdrop (A B : sProp 𝕄) : iprop(A ∗ B) ⊢ iprop(B ∗ emp) := by
    iintro ⟨-, H⟩
    isplitl [H]; · iexact H
    iempintro
  exact hdrop _ _

/-- The launch: every device's state sorted, the levels fixed, the staging cells' ghost state made, and the own
    semaphores and result arrays of ALL devices dealt at once (`hdeal`). -/
theorem launch_all (hL : ∀ g : GSem nD τ sig, g.1.2 ≠ .tc → L g = ∅) (u₀ : UTwo) (G : Dev nD → sProp 𝕄)
    (hu : (ownU u₀ : sProp 𝕄) ⊢ |={Set.univ}=> iprop(BI.own (stgE (initOf (PerCore.cells cs cellOf_inj) (PerCore.launchToks cs cellOf_inj))) ∗ bigSep Finset.univ G))
    (hdeal : (bigSep Finset.univ fun c => iprop(ownSems0 osem c ∗ res m c ∗ G c) : sProp 𝕄) ⊢ |={Set.univ}=> bigSep Finset.univ G') :
    iprop((bigSep Finset.univ fun d : Dev nD => coreInit (Ix := Unit) (Name := ℕ) (U := UTwo) (Lvl := ℕ) (owing O₀) 0 (⟨m, fun _ => 0, ρ⟩ : MemSt nD τ sig (Elt F)) (d : Thread nD τ)) ∗ ownU u₀)
      ⊢ |={Set.univ}=> iprop(∃ _ : Unit, bigSep Finset.univ (held m O₀ L lv G') ∗ emp) := by
  have hpg : (bigSep Finset.univ fun c : Dev nD => bigSep Finset.univ fun p => PerCore.cellsGhost cs (stgE (F := F)) p c)
      ⊢ bigSep Finset.univ fun c : Dev nD => PerCore.cellsGhost cs (stgE (F := F)) (0 : Fin 1) c :=
    bigSep_mono fun c _ => BI.bigSep_elim (Finset.mem_univ 0)
  have hpt : (bigSep Finset.univ fun c : Dev nD => bigSep Finset.univ fun p => PerCore.toksInit cs (stgE (F := F)) p c)
      ⊢ bigSep Finset.univ fun c : Dev nD => PerCore.toksInit cs (stgE (F := F)) (0 : Fin 1) c :=
    bigSep_mono fun c _ => BI.bigSep_elim (Finset.mem_univ 0)
  have hla : (levAts L lv : sProp 𝕄) ⊢ bigSep Finset.univ fun _ : Dev nD => (levAts L lv : sProp 𝕄) :=
    BI.bigSep_of_persistent (Finset.univ : Finset (Dev nD)) (levAts L lv : sProp 𝕄)
  have hsort : (bigSep Finset.univ fun d : Dev nD => coreInit (Ix := Unit) (Name := ℕ) (U := UTwo) (Lvl := ℕ) (owing O₀) 0 (⟨m, fun _ => 0, ρ⟩ : MemSt nD τ sig (Elt F)) (d : Thread nD τ))
      ⊢ iprop((bigSep Finset.univ fun c : Dev nD => iprop(scopedBufs (c : Thread nD τ) ∗ PerCore.cellsSems0 cs (0 : Fin 1) c ∗ idle c)) ∗ bigSep Finset.univ (arrs m)
          ∗ (bigSep Finset.univ fun c : Dev nD => owes (c : Thread nD τ) (O₀ c) ∅) ∗ (bigSep Finset.univ fun c : Dev nD => launchCred O₀ c)
          ∗ (bigSep Finset.univ fun c : Dev nD => levels0 (Ix := Unit) (Val := Elt F) (Name := ℕ) (U := UTwo) (Lvl := ℕ) (τ := τ) (sig := sig) c)
          ∗ (bigSep Finset.univ fun c : Dev nD => ownSems0 osem c) ∗ bigSep Finset.univ (res m)) := by
    refine (bigSep_mono fun c _ => core_sort m ρ O₀ c).trans ?_
    simp only [bigSep_sep']
    exact BI.Entails.refl _
  simp only [bigSep_sep'] at hdeal
  have hfix := levels_fix (F := F) L lv hL
  have hg := PerCore.fund_ghost cs (stgE (F := F)) cellOf_inj
  iintro ⟨Hcores, Hu⟩
  ihave Hc := hsort $$ Hcores
  icases Hc with ⟨Hb, Harr, HO, Hcr, Hlv, Hos, Hres⟩
  imod hfix $$ Hlv with Hla
  imod hu $$ Hu with ⟨HP, HG⟩
  imod hg $$ HP with ⟨Hg, Ht⟩
  imod hdeal $$ [Hos Hres HG] with HG'
  · isplitl [Hos]; · iexact Hos
    isplitl [Hres] <;> iassumption
  imodintro
  iexists ()
  isplitr []
  · unfold held
    simp only [bigSep_sep']
    isplitl [Hb]; · iexact Hb
    isplitl [Harr]; · iexact Harr
    isplitl [HO]; · iexact HO
    isplitl [Hla]
    · iapply hla; iexact Hla
    isplitl [Hcr]; · iexact Hcr
    isplitl [Hg]; · iapply hpg; iexact Hg
    isplitl [Ht]; · iapply hpt; iexact Ht
    iexact HG'
  · iempintro

/-- One device's run, from what it is dealt to its end: the region entered with its arrays, staging cells and `X`. -/
theorem core_run (c : Dev nD) (hbody : BodyObligationLoose (dats 0 c) defs₀ Variants.none () Set.univ)
    (hshare : ∀ w, (dats 0 c).share w = fullShare) (howed₀ : (dats 0 c).owed 0 = O₀ c) (howedN : (dats 0 c).owed (Fin.last _) = 0)
    (hA : ∀ w, (dats 0 c).arrAt w 0 = m ((cfg0.win w).arr.view.loc (c : Thread nD τ)))
    (hwaits : (levAts L lv : sProp 𝕄) ⊢ PerCore.cellsWaits cs dats () (0 : Fin 1) c)
    (hX : iprop(levAts L lv ∗ launchCred O₀ c ∗ G' c) ⊢ X c)
    (hin : iprop(X c ∗ scopedRest spec0 c) ⊢ (dats 0 c).Φ 0)
    (hout : (dats 0 c).Φ (Fin.last cfg0.N) ⊢ iprop(Y c ∗ ownSems0 osem c ∗ scopedRest spec0 c)) :
    held m O₀ L lv G' c ⊢ wp frame (wpE (defs (F := F)) (Variants.lift Variants.none) (c : Thread nD τ) none) Set.univ (main (F := F) c)
      (fun _ => post (liftTc (left dats Y) BI.emp) (c : Thread nD τ)) := by
  have hss := PerCore.scopedSems0_split cs cellOf_inj (0 : Fin 1) (fun _ => winFacts0.to₀) (fun _ => ownFacts)
    (Ix := Unit) (Val := Elt F) (Name := ℕ) (U := UTwo) (Lvl := ℕ) c
  have hsb := PerCore.scopedBufs_split cs (0 : Fin 1) c winFacts0.stage_scoped winFacts0.stage_inj stage_whole0
    (nD := nD) (τ := τ) (Ix := Unit) (Val := Elt F) (Name := ℕ) (U := UTwo) (Lvl := ℕ)
  have harr : arrs m c ⊢ (dats 0 c).arrays ((dats 0 c).arrAt · 0) := by
    rw [PerCore.arrays_eq cs dats (0 : Fin 1) c arr_whole0 hshare]
    exact Entails.of_eq (bigSep_congr fun w _ => by rw [hA w])
  have hin' : iprop(X c ∗ prefHeld Prefetch.none c (fun _ => fullShare.right) (adm c 0).1 ∗ scopedRest spec0 c) ⊢ (dats 0 c).Φ 0 := by
    iintro ⟨HX, -, HR⟩
    iapply hin
    isplitl [HX] <;> iassumption
  have hout' : iprop((dats 0 c).Φ (Fin.last cfg0.N) ∗ PerCore.cellsSems0 cs (0 : Fin 1) c ∗ Dat.staging cfg0 c ∗ idle c)
      ⊢ iprop(Y c ∗ scopedSems0 (c : Thread nD τ) ∗ scopedBufs (c : Thread nD τ)) := by
    rw [hss, hsb]
    unfold idle
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hpf : (emp : sProp 𝕄) ⊢ prefHeld Prefetch.none c (fun _ => fullShare.right) (adm c 0).1 := by
    unfold prefHeld
    exact Entails.of_eq BI.bigSep_empty.symm
  have howe : (owes (c : Thread nD τ) (O₀ c) ∅ : sProp 𝕄) ⊢ (dats 0 c).owesAt () 0 := by
    unfold Dat.owesAt owesWithin
    rw [howed₀]
    iintro HO
    iexists ∅
    isplitr; · ipureintro; rw [Finset.coe_empty]; exact Set.empty_subset _
    iexact HO
  have howx : (dats 0 c).owesAt () (Fin.last _) ⊢ (iprop(∃ W, owes (c : Thread nD τ) (0 : CellTallies nD τ sig Unit) W) : sProp 𝕄) := by
    unfold Dat.owesAt owesWithin
    rw [howedN]
    iintro ⟨%W, -, HW⟩
    iexists W; iexact HW
  have hcc (κ : GSem nD τ sig → ℕ) :
      iprop(PerCore.EntryPre cs dats () stgE κ (0 : Fin 1) c ∗ prefHeld Prefetch.none c (fun _ => fullShare.right) (adm c 0).1 ∗ X c ∗ idle c ∗ scopedBufs (c : Thread nD τ))
        ⊢ iprop(((PerCore.EntryPost cs dats () (0 : Fin 1) c ∗ Y c ∗ scopedSems0 (c : Thread nD τ) ∗ scopedBufs (c : Thread nD τ))
            -∗ wp frame (wpE (defs (F := F)) (Variants.lift Variants.none) (c : Thread nD τ) none) Set.univ (Prog.ret PUnit.unit) (fun _ => post (liftTc (left dats Y) BI.emp) (c : Thread nD τ)))
          -∗ wp frame (wpE (defs (F := F)) (Variants.lift Variants.none) (c : Thread nD τ) none) Set.univ (main (F := F) c) (fun _ => post (liftTc (left dats Y) BI.emp) (c : Thread nD τ))) :=
    PerCore.wp_customCall_entry_frame pcs adm dats () stgE κ cellOf_inj (0 : Fin 1) defs₀ Variants.none (fun _ => fullShare.right) c Set.univ
      (fun _ _ => Set.mem_univ _) hbody block_pos0 none (fun u h => nomatch h) (X := X c) (Y := Y c) (R := scopedRest spec0 c) (I := idle c)
      (Entails.of_eq hsb) hin' hout' (k := fun _ => Prog.ret PUnit.unit) (Q := fun _ => post (liftTc (left dats Y) BI.emp) (c : Thread nD τ))
  unfold held
  iintro ⟨⟨Hsc, Hcells, Hidle⟩, Harr, HO, #Hla, Hcr, Hg, Ht, HG⟩
  ihave Hw := hwaits $$ Hla
  ihave HX := hX $$ [Hcr HG]
  · isplitr; · iexact Hla
    isplitl [Hcr] <;> iassumption
  iapply (fupd_wp frame (wpE (defs (F := F)) (Variants.lift Variants.none) (c : Thread nD τ) none) Set.univ _ _)
  imod (PerCore.cellsInit_alloc cs dats stgE cellOf_inj (0 : Fin 1) c) $$ [Hcells Hg] with ⟨%κ, -, Hinit⟩
  · isplitl [Hcells] <;> iassumption
  imodintro
  iapply (hcc κ) $$ [Harr HO Hinit Ht HX Hidle Hsc Hw]
  · isplitl [Harr HO Hinit Ht Hw]
    · unfold PerCore.EntryPre
      isplitl [Harr]; · iapply harr; iexact Harr
      isplitl [HO]; · iapply howe; iexact HO
      isplitl [Hw]; · iexact Hw
      isplitl [Hinit] <;> iassumption
    isplitr; · iapply hpf; iempintro
    isplitl [HX]; · iexact HX
    isplitl [Hidle]; · iexact Hidle
    iexact Hsc
  iintro ⟨Hpost, HY, Hss, -⟩
  rw [wp_ret]; imodintro
  unfold post PerCore.EntryPost; simp only [liftTc_tc]
  unfold left
  icases Hpost with ⟨Ha, HW⟩
  isplitr [HW]
  · isplitl [Ha]; · iexact Ha
    isplitl [HY] <;> iassumption
  · iapply howx; iexact HW

/-- One device's end, read against a final state. -/
theorem core_read (c : Dev nD) (hshare : ∀ w, (dats 0 c).share w = fullShare) (QY : Dev nD → MemSt nD τ sig (Elt F) → Prop)
    (hY : ∀ s' : Phys nD τ sig (Elt F), iprop(Y c ∗ SI s') ⊢ iprop(⌜QY c s'.mem⌝ ∗ SI s')) (s' : Phys nD τ sig (Elt F)) :
    iprop(left dats Y c ∗ SI s') ⊢ |={Set.univ}=> iprop(⌜((∀ w, s'.mem.mem ((cfg0.win w).arr.view.loc (c : Thread nD τ)) = (dats 0 c).arrAt w cfg0.N) ∧ QY c s'.mem)
      ∧ ∀ sm : SemLoc sig, sm.isScoped .tc = true → s'.mem.sem ((c : Thread nD τ), sm) = 0⌝ ∗ SI s') := by
  unfold left
  rw [PerCore.arrays_eq cs dats (0 : Fin 1) c arr_whole0 hshare]
  iintro ⟨⟨Ha, HY, Hss⟩, HSI⟩
  ihave %hz := (tcScoped_read_pers c s') $$ [Hss HSI]
  · isplitl [Hss] <;> iassumption
  ihave Hr := (pointsTo_read_all Finset.univ (fun w : Fin 3 => (c : Thread nD τ).loc (arrRef spec0 w)) (fun w => (dats 0 c).arrAt w cfg0.N) s' fullShare) $$ [Ha HSI]
  · isplitl [Ha] <;> iassumption
  icases Hr with ⟨%ha, HSI⟩
  ihave Hq := (hY s') $$ [HY HSI]
  · isplitl [HY] <;> iassumption
  icases Hq with ⟨%hy, HSI⟩
  imodintro
  isplitr
  · ipureintro; exact ⟨⟨fun w => ha w (Finset.mem_univ w), hy⟩, hz⟩
  · iexact HSI

/-- The whole run. -/
theorem run_all (hbody : ∀ c, BodyObligationLoose (dats 0 c) defs₀ Variants.none () Set.univ)
    (hshare : ∀ c w, (dats 0 c).share w = fullShare) (howed₀ : ∀ c, (dats 0 c).owed 0 = O₀ c) (howedN : ∀ c, (dats 0 c).owed (Fin.last _) = 0)
    (hA : ∀ c w, (dats 0 c).arrAt w 0 = m ((cfg0.win w).arr.view.loc (c : Thread nD τ)))
    (hL : ∀ g : GSem nD τ sig, g.1.2 ≠ .tc → L g = ∅)
    (hwaits : ∀ c, (levAts L lv : sProp 𝕄) ⊢ PerCore.cellsWaits cs dats () (0 : Fin 1) c)
    (u₀ : UTwo) (G : Dev nD → sProp 𝕄)
    (hu : (ownU u₀ : sProp 𝕄) ⊢ |={Set.univ}=> iprop(BI.own (stgE (initOf (PerCore.cells cs cellOf_inj) (PerCore.launchToks cs cellOf_inj))) ∗ bigSep Finset.univ G))
    (hdeal : (bigSep Finset.univ fun c => iprop(ownSems0 osem c ∗ res m c ∗ G c) : sProp 𝕄) ⊢ |={Set.univ}=> bigSep Finset.univ G')
    (hX : ∀ c, iprop(levAts L lv ∗ launchCred O₀ c ∗ G' c) ⊢ X c)
    (hin : ∀ c, iprop(X c ∗ scopedRest spec0 c) ⊢ (dats 0 c).Φ 0)
    (hout : ∀ c, (dats 0 c).Φ (Fin.last cfg0.N) ⊢ iprop(Y c ∗ ownSems0 osem c ∗ scopedRest spec0 c))
    (QY : Dev nD → MemSt nD τ sig (Elt F) → Prop)
    (hY : ∀ c (s' : Phys nD τ sig (Elt F)), iprop(Y c ∗ SI s') ⊢ iprop(⌜QY c s'.mem⌝ ∗ SI s')) :
    θ_run (defs (F := F)) (onTc (τ := τ) (main (F := F))) ⟨m, fun _ => 0, ρ⟩ (fun r =>
      (∀ c : Dev nD, (∀ w, r.2.mem ((cfg0.win w).arr.view.loc (c : Thread nD τ)) = (dats 0 c).arrAt w cfg0.N) ∧ QY c r.2) ∧ r.2.sem = fun _ => 0) := by
  refine (θ_run defs _ _).mono (Q := fun r => (∀ c : Dev nD, ((∀ w, r.2.mem ((cfg0.win w).arr.view.loc (c : Thread nD τ)) = (dats 0 c).arrAt w cfg0.N) ∧ QY c r.2)
      ∧ ∀ sm : SemLoc sig, sm.isScoped .tc = true → r.2.sem ((c : Thread nD τ), sm) = 0) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu defs _ _ _ (reflect_intro_fupd_tc_sems (X := Unit) (Variants.lift Variants.none) (owing O₀) 0 (noBookings fun _ => le_rfl) (owing_of_ne O₀) u₀
      (fun _ => held m O₀ L lv G') (fun _ => left dats Y) (fun _ => iprop(emp)) Set.univ (launch_all m ρ O₀ L lv G' hL u₀ G hu hdeal)
      (fun _ c => core_run m dats O₀ L lv G' X Y c (hbody c) (hshare c) (howed₀ c) (howedN c) (hA c) (hwaits c) (hX c) (hin c) (hout c)) fun _ => ?_))
  iintro ⟨H, -, Hsc⟩ %s' HSI
  ihave %hsc := (scSems_read_zero m ρ s') $$ [Hsc HSI]
  · isplitl [Hsc] <;> iassumption
  imod (posts_fupd Finset.univ (fun c s' => core_read dats Y c (hshare c) QY (hY c) s') s') $$ [H HSI] with %h
  · isplitl [H] <;> iassumption
  imodintro
  ipureintro
  exact ⟨fun c => h c (Finset.mem_univ c), hsc⟩

end Run

end Cert.Proof

end
-- ==== Proof.Common.lean ====
/-
  The ring's protocol. The result array of every device is cut into 64 pieces of 2048 columns. Transfer `f` of device
  `c` moves piece `num c f` of its result array to the same piece of the next device's; what device `c` receives as its
  transfer `f` is its piece `num c (f + 2)`. Every send, receive and local-copy semaphore is a cell of one round with one
  duty: a receive cell's duty is paid with the piece received, at the final contents `fn`; a send cell's with the piece
  sent, back; the local copy's with the two pieces of the device's own block and the chunk buffer.
-/
module

public import proofs.«01_k».proof.Proof.Start

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

/-! ## The ring of devices -/

set_option backward.proofsInPublic true in
/-- The device `c` sends to, -/
def nxt (c : Dev nD) : Dev nD := ⟨(c.val + 1) % 32, Nat.mod_lt _ (by decide)⟩
set_option backward.proofsInPublic true in
/-- and the one it receives from. -/
def prv (c : Dev nD) : Dev nD := ⟨(c.val + 31) % 32, Nat.mod_lt _ (by decide)⟩

theorem dev_lt (c : Dev nD) : c.val < 32 := c.isLt
theorem nxt_val (c : Dev nD) : (nxt c).val = (c.val + 1) % 32 := rfl
theorem prv_val (c : Dev nD) : (prv c).val = (c.val + 31) % 32 := rfl
theorem prv_nxt (c : Dev nD) : prv (nxt c) = c := Fin.ext (by rw [prv_val, nxt_val]; have := dev_lt c; omega)
theorem nxt_prv (c : Dev nD) : nxt (prv c) = c := Fin.ext (by rw [nxt_val, prv_val]; have := dev_lt c; omega)
/-- The ring as a permutation. -/
def ring : Dev nD ≃ Dev nD := ⟨nxt, prv, prv_nxt, nxt_prv⟩

theorem tgt_eq (c : Dev nD) : tgt c = nxt c := Fin.ext (k0_dev1_eq c)

/-! ## The pieces -/

/-- The number of the piece device `c` sends as transfer `f`: half `f % 2` of the block `f / 2` places back. -/
def num (c : Dev nD) (f : ℕ) : ℕ := 2 * ((c.val + 32 - f / 2) % 32) + f % 2

theorem num_nxt (c : Dev nD) (f : ℕ) (hf : f < 62) : num (nxt c) (f + 2) = num c f := by
  unfold num; rw [nxt_val]; have := dev_lt c; omega
theorem num_lt (c : Dev nD) (f : ℕ) : num c f < 64 := by unfold num; omega
theorem num_inj (c : Dev nD) {f g : ℕ} (hf : f < 64) (hg : g < 64) (h : num c f = num c g) : f = g := by
  unfold num at h; have := dev_lt c; omega
theorem num_surj (c : Dev nD) {k : ℕ} (hk : k < 64) : ∃ f < 64, num c f = k :=
  ⟨2 * ((c.val + 32 - k / 2) % 32) + k % 2, by omega, by unfold num; have := dev_lt c; omega⟩

/-- The columns of piece `k`. -/
def pcSet (k : ℕ) : Finset S256x131072.Idx := Finset.univ.filter fun i => (i 1).val / 2048 = k

theorem mem_pcSet {k : ℕ} {i : S256x131072.Idx} : i ∈ pcSet k ↔ (i 1).val / 2048 = k := by
  unfold pcSet; exact ⟨fun h => (Finset.mem_filter.mp h).2, fun h => Finset.mem_filter.mpr ⟨Finset.mem_univ _, h⟩⟩
theorem pcSet_disj {k k' : ℕ} (h : k ≠ k') : Disjoint (pcSet k) (pcSet k') :=
  Finset.disjoint_left.mpr fun i hi hi' => h ((mem_pcSet.mp hi).symm.trans (mem_pcSet.mp hi'))

theorem half_set (off : Fin 2 → ℕ) (h : ∀ a, off a + S256x2048.size a ≤ S256x131072.size a) (k : ℕ) (hk : off = ![0, 2048 * k]) :
    (half off h).view.set = pcSet k := by
  have h1 : (half off h).view.set = (Rect.unit (s := S256x131072) off S256x2048.size h).set := View.set_slice_whole main_v1 _
  rw [h1]
  ext i
  rw [Rect.mem_set_unit, mem_pcSet, Fin.forall_fin_two, hk]
  have h0 : (i 0).val < 256 := (i 0).isLt
  show ((0 ≤ (i 0).val ∧ (i 0).val < 0 + 256) ∧ (2048 * k ≤ (i 1).val ∧ (i 1).val < 2048 * k + 2048)) ↔ (i 1).val / 2048 = k
  omega

theorem blk_set (off : Fin 2 → ℕ) (h : ∀ a, off a + S256x4096.size a ≤ S256x131072.size a) (c : Dev nD) (hk : off = ![0, 4096 * c.val]) :
    (blkM off h).view.set = pcSet (num c 0) ∪ pcSet (num c 1) := by
  have h1 : (blkM off h).view.set = (Rect.unit (s := S256x131072) off S256x4096.size h).set := View.set_slice_whole main_v1 _
  rw [h1]
  ext i
  rw [Finset.mem_union, Rect.mem_set_unit, mem_pcSet, mem_pcSet, Fin.forall_fin_two, hk]
  have h0 : (i 0).val < 256 := (i 0).isLt
  have hc := dev_lt c
  show ((0 ≤ (i 0).val ∧ (i 0).val < 0 + 256) ∧ (4096 * c.val ≤ (i 1).val ∧ (i 1).val < 4096 * c.val + 4096)) ↔ _
  unfold num
  omega

theorem soff_eq (c : Dev nD) (f : ℕ) (hf : f < 2) : soff c f = ![0, 2048 * num c f] := by
  have h := k0_off2_eq c ⟨f, hf⟩
  have hb : soff c f = k0_off2 c (BitVec.ofNat 32 (2048 * f)) := by unfold soff; rw [Nat.mod_eq_of_lt hf]
  rw [hb]
  refine (Eq.trans ?_ h).trans ?_
  · rfl
  · have : 4096 * c.val + 2048 * f = 2048 * num c f := by unfold num; have := dev_lt c; omega
    rw [← this]

theorem roff_eq (c : Dev nD) (f : ℕ) (hf : f < 62) : roff c f = ![0, 2048 * num c (f + 2)] := by
  have h := k0_off3_eq c ⟨f / 2 % 31, Nat.mod_lt _ (by decide)⟩ ⟨f % 2, Nat.mod_lt _ (by decide)⟩
  refine (Eq.trans ?_ h).trans ?_
  · rfl
  · have : 4096 * (((c.val + 63) - f / 2 % 31) % 32) + 2048 * (f % 2) = 2048 * num c (f + 2) := by unfold num; have := dev_lt c; omega
    rw [← this]

/-- Piece `k` of device `c`'s result array at contents `g`. -/
def piece (c : Dev nD) (k : ℕ) (g : (main_v1 : Ref sig .tc).ty.Contents (Elt F)) : sProp 𝕄 :=
  ((c : Thread nD τ).loc main_v1) ↦[pcSet k]{fullShare} g

instance piece_storable (c : Dev nD) (k : ℕ) (g : (main_v1 : Ref sig .tc).ty.Contents (Elt F)) :
    BI.Storable (upEmb : UEmb _ 𝕄) (piece c k g) := by unfold piece; infer_instance

/-- The chunk buffer of device `c` at contents `g`. -/
def chunkAt (c : Dev nD) (g : (cc0_scratch0 : Ref sig .tc).ty.Contents (Elt F)) : sProp 𝕄 :=
  ((c : Thread nD τ).loc cc0_scratch0) ↦{fullShare} g

instance chunkAt_storable (c : Dev nD) (g : (cc0_scratch0 : Ref sig .tc).ty.Contents (Elt F)) :
    BI.Storable (upEmb : UEmb _ 𝕄) (chunkAt c g) := by unfold chunkAt; infer_instance

omit [FloatOps F] in
/-- A result array held whole is its 64 pieces, in the order the ring takes them. -/
theorem pieces_eq (c : Dev nD) (g : (main_v1 : Ref sig .tc).ty.Contents (Elt F)) :
    (((c : Thread nD τ).loc main_v1) ↦{fullShare} g : sProp 𝕄) = bigSep (Finset.Ico 0 64) fun f => piece c (num c f) g := by
  have hb := pointsTo_biUnion (Ix := Unit) (Val := Elt F) (Name := ℕ) (U := UTwo) (Lvl := ℕ) (ℓ := (c : Thread nD τ).loc main_v1) (q := fullShare) (f := g)
    (Finset.Ico 0 64) (fun f => pcSet (num c f)) fun f hf f' hf' hne =>
      pcSet_disj fun h => hne (num_inj c (Finset.mem_Ico.mp hf).2 (Finset.mem_Ico.mp hf').2 h)
  refine (congrArg (fun S : Finset (Idx ((c : Thread nD τ).loc main_v1)) => (((c : Thread nD τ).loc main_v1) ↦[S]{fullShare} g : sProp 𝕄)) ?_).trans hb
  refine (Finset.eq_univ_iff_forall.mpr fun i => ?_).symm
  have h1 : ((i : S256x131072.Idx) 1).val < 131072 := ((i : S256x131072.Idx) 1).isLt
  obtain ⟨f, hf, h⟩ := num_surj c (k := ((i : S256x131072.Idx) 1).val / 2048) (by omega)
  exact Finset.mem_biUnion.mpr ⟨f, Finset.mem_Ico.mpr ⟨Nat.zero_le _, hf⟩, mem_pcSet.mpr h.symm⟩

/-! ## The cells and their schedule -/

/-- Device `c`'s cell of transfer `f` sent, -/
abbrev sndC (c : Dev nD) (f : ℕ) : GSem nD τ sig := ((c : Thread nD τ), .dma (sndQ f))
/-- received, -/
abbrev rcvC (c : Dev nD) (f : ℕ) : GSem nD τ sig := ((c : Thread nD τ), .dma (rcvQ f))
/-- and of the local copy. -/
abbrev locC (c : Dev nD) : GSem nD τ sig := ((c : Thread nD τ), .dma locQ)

/-- A semaphore's number. -/
def qn : SemLoc sig → ℕ
  | .dma q => q.val
  | .reg _ => 0

theorem qn_snd (f : ℕ) (hf : f < 62) : qn (.dma (sndQ f)) = 65 + f := by
  show 65 + f % 62 = _; rw [Nat.mod_eq_of_lt hf]
theorem qn_rcv (f : ℕ) (hf : f < 62) : qn (.dma (rcvQ f)) = 127 + f := by
  show 127 + f % 62 = _; rw [Nat.mod_eq_of_lt hf]
theorem qn_loc : qn (.dma locQ) = 189 := rfl

/-- What one transfer of a half block credits, -/
@[irreducible] def N : ℕ := (half ![0, 0] (fun a => by fin_cases a <;> decide)).view.dmaCredit
/-- and the local copy of the whole block. -/
@[irreducible] def NL : ℕ := (blkM ![0, 0] (fun a => by fin_cases a <;> decide)).view.dmaCredit

theorem N_pos : 0 < N := by unfold N; exact View.dmaCredit_pos _ (by decide)
theorem NL_pos : 0 < NL := by unfold NL; exact View.dmaCredit_pos _ (by decide)
theorem half_N (off : Fin 2 → ℕ) (h : ∀ a, off a + S256x2048.size a ≤ S256x131072.size a) : (half off h).view.dmaCredit = N := by unfold N; rfl
theorem blk_NL (off : Fin 2 → ℕ) (h : ∀ a, off a + S256x4096.size a ≤ S256x131072.size a) : (blkM off h).view.dmaCredit = NL := by unfold NL; rfl

section Sched

variable (fn : (main_v1 : Ref sig .tc).ty.Contents (Elt F)) (ch : Dev nD → (cc0_scratch0 : Ref sig .tc).ty.Contents (Elt F))

/-- What the cell number `q` of device `c` pays. -/
def pay (c : Dev nD) (q : ℕ) : sProp 𝕄 :=
  if q < 127 then piece c (num c (q - 65)) fn
  else if q < 189 then piece c (num c (q - 127 + 2)) fn
  else iprop((piece c (num c 0) fn ∗ piece c (num c 1) fn) ∗ chunkAt c (ch c))

instance pay_storable (c : Dev nD) (q : ℕ) : BI.Storable (upEmb : UEmb _ 𝕄) (pay fn ch c q) := by
  unfold pay; (repeat' split) <;> infer_instance

/-- The schedule: one round of one duty on every cell numbered 65 or more of a TensorCore. -/
def Rd : Rounds.Schedule (GSem nD τ sig) Unit 𝕄 where
  duties g r := if r = 0 ∧ g.1.2 = .tc ∧ 65 ≤ qn g.2 then {()} else ∅
  unitless _ := False
  amount g _ _ := if qn g.2 < 189 then N else NL
  payload g _ _ := pay fn ch g.1.1 (qn g.2)
  amount_pos g _ _ _ := by
    by_cases h : qn g.2 < 189
    · rw [if_pos h]; exact N_pos
    · rw [if_neg h]; exact NL_pos

instance Rd_storable (g : GSem nD τ sig) (r : ℕ) (d : Unit) : BI.Storable (upEmb : UEmb _ 𝕄) ((Rd fn ch).payload g r d) := by
  show BI.Storable upEmb (pay fn ch g.1.1 (qn g.2)); infer_instance

omit [FloatOps F] in
theorem duties_at (c : Dev nD) (s : SemLoc sig) (h : 65 ≤ qn s) : (Rd fn ch).duties ((c : Thread nD τ), s) 0 = {()} := by
  dsimp only [Rd]; exact if_pos ⟨rfl, rfl, h⟩
omit [FloatOps F] in
theorem duties_low (c : Dev nD) (s : SemLoc sig) (h : qn s < 65) (r : ℕ) : (Rd fn ch).duties ((c : Thread nD τ), s) r = ∅ := by
  dsimp only [Rd]; exact if_neg fun h' => by have := h'.2.2; omega
omit [FloatOps F] in
theorem duties_later (g : GSem nD τ sig) (r : ℕ) (hr : 1 ≤ r) : (Rd fn ch).duties g r = ∅ := by
  dsimp only [Rd]; exact if_neg fun h => by omega
omit [FloatOps F] in
theorem amount_at (c : Dev nD) (s : SemLoc sig) (h : qn s < 189) (u : Unit) : (Rd fn ch).amount ((c : Thread nD τ), s) 0 u = N := by
  dsimp only [Rd]; exact if_pos h
omit [FloatOps F] in
theorem amount_loc (c : Dev nD) (u : Unit) : (Rd fn ch).amount (locC c) 0 u = NL := by
  dsimp only [Rd]; exact if_neg (by rw [qn_loc]; omega)
omit [FloatOps F] in
theorem expect_at (c : Dev nD) (s : SemLoc sig) (h : 65 ≤ qn s) (h' : qn s < 189) : (Rd fn ch).expect ((c : Thread nD τ), s) 0 = N := by
  unfold Schedule.expect Schedule.amountOf; rw [duties_at fn ch c s h, Finset.sum_singleton, amount_at fn ch c s h']
omit [FloatOps F] in
theorem expect_loc (c : Dev nD) : (Rd fn ch).expect (locC c) 0 = NL := by
  unfold Schedule.expect Schedule.amountOf; rw [duties_at fn ch c _ (by rw [qn_loc]; omega), Finset.sum_singleton, amount_loc]
omit [FloatOps F] in
theorem payload_snd (c : Dev nD) (f : ℕ) (hf : f < 62) (u : Unit) : (Rd fn ch).payload (sndC c f) 0 u = piece c (num c f) fn := by
  show pay fn ch c (qn (.dma (sndQ f))) = _
  unfold pay; rw [qn_snd f hf, if_pos (by omega), Nat.add_sub_cancel_left]
omit [FloatOps F] in
theorem payload_rcv (c : Dev nD) (f : ℕ) (hf : f < 62) (u : Unit) : (Rd fn ch).payload (rcvC c f) 0 u = piece c (num c (f + 2)) fn := by
  show pay fn ch c (qn (.dma (rcvQ f))) = _
  unfold pay; rw [qn_rcv f hf, if_neg (by omega), if_pos (by omega), Nat.add_sub_cancel_left]
omit [FloatOps F] in
theorem payload_loc (c : Dev nD) (u : Unit) :
    (Rd fn ch).payload (locC c) 0 u = iprop((piece c (num c 0) fn ∗ piece c (num c 1) fn) ∗ chunkAt c (ch c)) := by
  show pay fn ch c (qn (.dma locQ)) = _
  unfold pay; rw [qn_loc, if_neg (by omega), if_neg (by omega)]
omit [FloatOps F] in
/-- All of a round of one duty is its payload. -/
theorem rest_at (c : Dev nD) (s : SemLoc sig) (h : 65 ≤ qn s) :
    (bigSep ((Rd fn ch).duties ((c : Thread nD τ), s) 0 \ ∅) fun u => (Rd fn ch).payload ((c : Thread nD τ), s) 0 u)
      = (Rd fn ch).payload ((c : Thread nD τ), s) 0 () := by
  rw [Finset.sdiff_empty, duties_at fn ch c s h, bigSep_singleton]

end Sched

/-! ## What a device owes, and the levels -/

/-- What device `c` owes from transfer `f` on: the credit of each at the next device's receive cell; -/
def owed (c : Dev nD) (f : ℕ) : CellTallies nD τ sig Unit := ∑ g ∈ Finset.Ico f 62, tallyAt (rcvC (nxt c) g) () N

theorem owed_end (c : Dev nD) : owed c 62 = 0 := by unfold owed; rw [Finset.Ico_self, Finset.sum_empty]
theorem owed_step (c : Dev nD) (f : ℕ) (hf : f < 62) : owed c f = owed c (f + 1) + tallyAt (rcvC (nxt c) f) () N := by
  unfold owed; rw [Finset.sum_eq_sum_Ico_succ_bot hf, add_comm]

/-- every TensorCore cell has the one index levelled; -/
def lvls (g : GSem nD τ sig) : Finset Unit := if g.1.2 = .tc then {()} else ∅
/-- receive cell `f` sits at `f + 1`, everything else at 0. -/
def lv (g : GSem nD τ sig) (_ : Unit) : ℕ := if 127 ≤ qn g.2 ∧ qn g.2 < 189 then qn g.2 - 126 else 0

theorem lvls_ne (g : GSem nD τ sig) (h : g.1.2 ≠ .tc) : lvls g = ∅ := if_neg h
theorem lvls_tc (c : Dev nD) (s : SemLoc sig) : lvls ((c : Thread nD τ), s) = {()} := if_pos rfl
theorem lv_rcv (c : Dev nD) (f : ℕ) (hf : f < 62) (u : Unit) : lv (rcvC c f) u = f + 1 := by
  unfold lv; rw [qn_rcv f hf, if_pos (by omega)]; omega

theorem owed_pos {c : Dev nD} {f : ℕ} {g : GSem nD τ sig} {u : Unit} (h : 0 < owed c f g u) : ∃ f', f ≤ f' ∧ f' < 62 ∧ g = rcvC (nxt c) f' := by
  unfold owed at h
  rw [Finset.sum_apply, Finsupp.finset_sum_apply] at h
  obtain ⟨f', hf', h'⟩ := Finset.exists_ne_zero_of_sum_ne_zero (Nat.pos_iff_ne_zero.mp h)
  refine ⟨f', (Finset.mem_Ico.mp hf').1, (Finset.mem_Ico.mp hf').2, ?_⟩
  rw [tallyAt_apply] at h'
  by_contra hn
  exact h' (if_neg fun h'' => hn h''.1)

omit [FloatOps F] in
/-- A device that still owes its transfers from `f` on may wait on any of its cells at level `f` or below. -/
theorem mayWait_low (c : Dev nD) (s : SemLoc sig) (f : ℕ) (hs : lv ((c : Thread nD τ), s) () ≤ f) :
    (levAts lvls lv : sProp 𝕄) ⊢ MayWait (c : Thread nD τ) s () (owed c f) :=
  MayOwe.of_cut (L := lvls) (lev := lv) f (fun p hp => by rw [Finset.mem_singleton.mp hp, lvls_tc]; exact Finset.mem_singleton_self _)
    (fun g u hg => by obtain ⟨f', -, -, rfl⟩ := owed_pos hg; rw [lvls_tc]; exact Finset.mem_singleton_self _)
    (fun p hp => by rw [Finset.mem_singleton.mp hp]; exact hs)
    (fun g u hg => by obtain ⟨f', h1, h2, rfl⟩ := owed_pos hg; rw [lv_rcv _ _ h2]; omega)

end Cert.Proof

end
-- ==== Proof.Ring.lean ====
/-
  The ring, step by step: one send, one wait, and the recursions of the body over them.
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (fn : (main_v1 : Ref sig .tc).ty.Contents (Elt F)) (ch : Dev nD → (cc0_scratch0 : Ref sig .tc).ty.Contents (Elt F))
variable (K : Dev nD × Fin 187 → ℕ)

/-! ## The records every device may consult -/

/-- Own semaphore `ck.2` of device `ck.1`. -/
abbrev kcell (ck : Dev nD × Fin 187) : GSem nD τ sig := ((ck.1 : Thread nD τ), osem ck.2)

/-- The cells' invariants under the names `K`, that round 0 of each is reached, and the levels. -/
def recs : sProp 𝕄 :=
  iprop((bigSep Finset.univ fun ck : Dev nD × Fin 187 => cellInv rngE (Rd fn ch) (K ck) (kcell ck))
    ∗ (bigSep Finset.univ fun ck : Dev nD × Fin 187 => reached rngE (kcell ck) 0) ∗ levAts lvls lv)

instance recs_persistent : BI.Persistent (recs fn ch K) := by unfold recs; infer_instance

set_option backward.proofsInPublic true in
/-- Where transfer `f`'s send semaphore stands among the own ones, -/
def iS (f : ℕ) : Fin 187 := ⟨62 + f % 62, by have := Nat.mod_lt f (show 0 < 62 by decide); omega⟩
set_option backward.proofsInPublic true in
/-- its receive semaphore, -/
def iR (f : ℕ) : Fin 187 := ⟨124 + f % 62, by have := Nat.mod_lt f (show 0 < 62 by decide); omega⟩
set_option backward.proofsInPublic true in
/-- and the local copy's. -/
def iL : Fin 187 := ⟨186, by decide⟩

theorem osem_iS (f : ℕ) : osem (iS f) = .dma (sndQ f) :=
  congrArg SemLoc.dma (Fin.ext (by show 3 + (62 + f % 62) = 65 + f % 62; omega))
theorem osem_iR (f : ℕ) : osem (iR f) = .dma (rcvQ f) :=
  congrArg SemLoc.dma (Fin.ext (by show 3 + (124 + f % 62) = 127 + f % 62; omega))
theorem osem_iL : osem iL = .dma locQ := congrArg SemLoc.dma (Fin.ext rfl)

omit [FloatOps F] in
theorem recs_inv (c : Dev nD) (k : Fin 187) (s : SemLoc sig) (hk : osem k = s) :
    recs fn ch K ⊢ cellInv rngE (Rd fn ch) (K (c, k)) ((c : Thread nD τ), s) := by
  subst hk
  have h : (bigSep Finset.univ fun ck : Dev nD × Fin 187 => (cellInv rngE (Rd fn ch) (K ck) (kcell ck) : sProp 𝕄))
      ⊢ cellInv rngE (Rd fn ch) (K (c, k)) (kcell (c, k)) := bigSep_elim (Finset.mem_univ _)
  unfold recs
  iintro ⟨H, -⟩
  iapply h; iexact H

omit [FloatOps F] in
theorem recs_reached (c : Dev nD) (k : Fin 187) (s : SemLoc sig) (hk : osem k = s) :
    recs fn ch K ⊢ reached rngE ((c : Thread nD τ), s) 0 := by
  subst hk
  have h : (bigSep Finset.univ fun ck : Dev nD × Fin 187 => (reached rngE (kcell ck) 0 : sProp 𝕄))
      ⊢ reached rngE (kcell (c, k)) 0 := bigSep_elim (Finset.mem_univ _)
  unfold recs
  iintro ⟨-, H, -⟩
  iapply h; iexact H

/-! ## One send, one wait -/

/-- What device `c` owes, its waits so far whichever they are. -/
def owesE (c : Dev nD) (O : CellTallies nD τ sig Unit) : sProp 𝕄 := iprop(∃ W, owes (c : Thread nD τ) O W)

/-- The weakest precondition of a program of device `c`'s TensorCore. -/
abbrev WP (c : Dev nD) (P : Prog (TpuEff nD τ sig (Elt F) Λ₀ .tc) PUnit) (Q : PUnit → sProp 𝕄) : sProp 𝕄 :=
  wp frame (wpE (defs₀ (F := F)) Variants.none (c : Thread nD τ) none) Set.univ P Q

omit [FloatOps F] in
/-- Written over the columns of its own view, what is read there is there. -/
theorem write_same (off : Fin 2 → ℕ) (h : ∀ a, off a + S256x2048.size a ≤ S256x131072.size a)
    (g g' : (main_v1 : Ref sig .tc).ty.Contents (Elt F)) (i : S256x131072.Idx) (hi : i ∈ (half off h).view.set) :
    (half off h).view.write (Elt F) g ((half off h).view.read (Elt F) g') Finset.univ i = g' i :=
  (congrFun (View.write_read_eq_piecewise (v := (half off h).view) g g' Finset.univ) i).trans (Finset.piecewise_eq_of_mem _ _ _ hi)

/-- Transfer `f`: device `c` hands its piece and the same piece of the next device over, and takes the credit of its
    send cell. -/
theorem send_step (c : Dev nD) (n : Dev nD) (hn : n = nxt c) (f : ℕ) (hf : f < 62) (off : Fin 2 → ℕ)
    (h : ∀ a, off a + S256x2048.size a ≤ S256x131072.size a) (hoff : off = ![0, 2048 * num c f])
    (gd : (main_v1 : Ref sig .tc).ty.Contents (Elt F))
    (k : PUnit → Prog (TpuEff nD τ sig (Elt F) Λ₀ .tc) PUnit) (Q : PUnit → sProp 𝕄) :
    iprop(recs fn ch K ∗ piece c (num c f) fn ∗ piece (nxt c) (num (nxt c) (f + 2)) gd ∗ owesE c (owed c f)
        ∗ dutyTok rngE (sndC c f) 0 () ∗ dutyTok rngE (rcvC (nxt c) f) 0 ())
      ⊢ iprop(((cred (tallyAt (sndC c f) () N) ∗ owesE c (owed c (f + 1))) -∗ WP c (k ⟨⟩) Q) -∗ WP c (.op (sendH n off h f) k) Q) := by
  subst hn
  have hset := half_set off h (num c f) hoff
  have hp (d : Dev nD) (g : (main_v1 : Ref sig .tc).ty.Contents (Elt F)) :
      (piece d (num c f) g : sProp 𝕄) = ((half off h).view.loc (d : Thread nD τ) ↦[(half off h).view.set]{fullShare} g) := by
    unfold piece; rw [hset]
  have hs (W : Waits sig Unit) :
      iprop(cellInv rngE (Rd fn ch) (K (c, iS f)) (sndC c f) ∗ cellInv rngE (Rd fn ch) (K (nxt c, iR f)) (rcvC (nxt c) f)
          ∗ ((half off h).view.loc (c : Thread nD τ) ↦[(half off h).view.set]{fullShare} fn)
          ∗ ((half off h).view.loc (nxt c : Thread nD τ) ↦[(half off h).view.set]{fullShare} gd)
          ∗ owes (c : Thread nD τ) (owed c f) W
          ∗ dutyTok rngE (sndC c f) 0 () ∗ reached rngE (sndC c f) 0
          ∗ dutyTok rngE (rcvC (nxt c) f) 0 () ∗ reached rngE (rcvC (nxt c) f) 0)
        ⊢ iprop(((cred (tallyAt (sndC c f) () N) ∗ owes (c : Thread nD τ) (owed c (f + 1)) W) -∗ WP c (k ⟨⟩) Q)
            -∗ WP c (.op (sendH (nxt c) off h f) k) Q) :=
    Rounds.wp_send_pointsTo Variants.none rngE (Rd fn ch) (c : Thread nD τ) none
      (c' := (nxt c : Thread nD τ)) (src := half off h) (dst := half off h) (sS := .dma (sndQ f)) (sem := .dma (rcvQ f)) (κ₁ := K (c, iS f)) (κ₂ := K (nxt c, iR f))
      (r₁ := 0) (r₂ := 0) (d₁ := ()) (d₂ := ()) (fd := gd)
      (by rw [duties_at fn ch c _ (by rw [qn_snd f hf]; omega)]; exact Finset.mem_singleton_self _)
      (by rw [duties_at fn ch (nxt c) _ (by rw [qn_rcv f hf]; omega)]; exact Finset.mem_singleton_self _)
      () () N (show (half off h).view.amount (.dma (rcvQ f)) = N from half_N off h) (amount_at fn ch c _ (by rw [qn_snd f hf]; omega) ()) (amount_at fn ch (nxt c) _ (by rw [qn_rcv f hf]; omega) ())
      (owed c (f + 1)) (owed_step c f hf) (W := W)
      (by rw [payload_snd fn ch c f hf, hp c])
      (by
        rw [payload_rcv fn ch (nxt c) f hf, num_nxt c f hf, hp (nxt c)]
        exact Entails.of_eq (pointsTo_congr fun i hi => write_same off h gd fn i hi))
  rw [num_nxt c f hf, hp c, hp (nxt c)]
  unfold owesE
  iintro ⟨#HR, Hsrc, Hdst, ⟨%W, HO⟩, HtS, HtR⟩ Hk
  ihave #HI1 := (recs_inv fn ch K c (iS f) _ (osem_iS f)) $$ HR
  ihave #HI2 := (recs_inv fn ch K (nxt c) (iR f) _ (osem_iR f)) $$ HR
  ihave #Hr1 := (recs_reached fn ch K c (iS f) _ (osem_iS f)) $$ HR
  ihave #Hr2 := (recs_reached fn ch K (nxt c) (iR f) _ (osem_iR f)) $$ HR
  iapply (hs W) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact Hr1
    isplitl [HtR]; · iexact HtR
    iexact Hr2
  iintro ⟨Hc, HO⟩
  iapply Hk
  isplitl [Hc]; · iexact Hc
  iexists W; iexact HO

/-- One wait of device `c` on its semaphore `q` for a half block. -/
theorem wait_step (c : Dev nD) (q : DmaSem sig) (i : Fin 187) (hi : osem i = .dma q) (h65 : 65 ≤ q.val) (h189 : q.val < 189)
    (off : Fin 2 → ℕ) (h : ∀ a, off a + S256x2048.size a ≤ S256x131072.size a)
    (O : CellTallies nD τ sig Unit) (hm : (levAts lvls lv : sProp 𝕄) ⊢ MayWait (c : Thread nD τ) (.dma q) () O)
    (k : PUnit → Prog (TpuEff nD τ sig (Elt F) Λ₀ .tc) PUnit) (Q : PUnit → sProp 𝕄) :
    iprop(recs fn ch K ∗ cred (tallyAt ((c : Thread nD τ), .dma q) () N) ∗ owesE c O ∗ atPos rngE ((c : Thread nD τ), .dma q) 0 ∅ 0)
      ⊢ iprop(((owesE c O ∗ atPos rngE ((c : Thread nD τ), .dma q) 1 ∅ 0 ∗ (Rd fn ch).payload ((c : Thread nD τ), .dma q) 0 ()) -∗ WP c (k ⟨⟩) Q)
          -∗ WP c (.op (waitH q off h) k) Q) := by
  have hw (K' : PUnit → sProp 𝕄) : wpE (defs₀ (F := F)) Variants.none (c : Thread nD τ) none Set.univ (waitH q off h) K'
      = waitSpec (c : Thread nD τ) Set.univ (.dma q) N K' := by
    rw [← half_N off h]
    exact wpE_waitDma2_eq Variants.none (c : Thread nD τ) none Set.univ K'
  have hs (W : Waits sig Unit) :
      iprop(cellInv rngE (Rd fn ch) (K (c, i)) ((c : Thread nD τ), .dma q) ∗ cred (tallyAt ((c : Thread nD τ), .dma q) () N)
          ∗ owes (c : Thread nD τ) O W ∗ MayWait (c : Thread nD τ) (.dma q) () O ∗ atPos rngE ((c : Thread nD τ), .dma q) 0 ∅ 0)
        ⊢ iprop(((owes (c : Thread nD τ) O (insert (SemLoc.dma q, ()) W) ∗ atPos rngE ((c : Thread nD τ), .dma q) (0 + 1) ∅ 0
              ∗ reached rngE ((c : Thread nD τ), .dma q) (0 + 1)
              ∗ bigSep ((Rd fn ch).duties ((c : Thread nD τ), .dma q) 0 \ ∅) (fun d => (Rd fn ch).payload ((c : Thread nD τ), .dma q) 0 d)) -∗ WP c (k ⟨⟩) Q)
            -∗ WP c (.op (waitH q off h) k) Q) :=
    Rounds.wp_wait_rest_token Variants.none rngE (Rd fn ch) (c : Thread nD τ) none (κ := K (c, i))
      (w := waitH q off h) (sm := .dma q) (k' := N) (Γ := ∅) (Es := Set.univ) (defs := defs₀) (k := k) (Q := Q) hw (Set.mem_univ _) () (O := O) (W := W) (R := 0) (m := 0) (T := ∅)
      ((Nat.zero_add N).trans (expect_at fn ch c (.dma q) h65 h189).symm)
  rw [rest_at fn ch c (.dma q) h65] at hs
  have hm' : recs fn ch K ⊢ MayWait (c : Thread nD τ) (.dma q) () O := by
    unfold recs
    iintro ⟨-, -, H⟩
    iapply hm
    iexact H
  unfold owesE
  iintro ⟨#HR, Hc, ⟨%W, HO⟩, Hat⟩ Hk
  ihave #HI := (recs_inv fn ch K c i _ hi) $$ HR
  ihave Hm := hm' $$ HR
  iapply (hs W) $$ [Hc HO Hat Hm]
  · isplitr; · iexact HI
    isplitl [Hc]; · iexact Hc
    isplitl [HO]; · iexact HO
    isplitl [Hm]; · iexact Hm
    iexact Hat
  iintro ⟨HO, Hat, -, Hp⟩
  iapply Hk
  isplitl [HO]; · iexists _; iexact HO
  isplitl [Hat]; · iexact Hat
  iexact Hp

end Cert.Proof

end
-- ==== Proof.RingRun.lean ====
/-
  The whole ring on one device: from its own two pieces at their final contents and the next device's pieces it sends
  into, to its result array whole at the final contents, every ring cell's one round consumed.
-/
module

public import proofs.«01_k».proof.Proof.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (fn : (main_v1 : Ref sig .tc).ty.Contents (Elt F)) (ch : Dev nD → (cc0_scratch0 : Ref sig .tc).ty.Contents (Elt F))
variable (gd : Dev nD → (main_v1 : Ref sig .tc).ty.Contents (Elt F))
variable (K : Dev nD × Fin 187 → ℕ)

/-! ## Families over the transfers -/

/-- From transfer `f` on. -/
abbrev from' (f : ℕ) (Φ : ℕ → sProp (MT nD τ sig Unit (Elt F) ℕ UTwo ℕ)) : sProp 𝕄 := bigSep (Finset.Ico f 62) Φ
/-- Up to transfer `f`. -/
abbrev upto (f : ℕ) (Φ : ℕ → sProp (MT nD τ sig Unit (Elt F) ℕ UTwo ℕ)) : sProp 𝕄 := bigSep (Finset.Ico 0 f) Φ

omit [FloatOps F] in
theorem from_pop (f : ℕ) (hf : f < 62) (Φ : ℕ → sProp 𝕄) : from' f Φ = iprop(Φ f ∗ from' (f + 1) Φ) := by
  unfold from'
  rw [← Finset.insert_Ico_add_one_left_eq_Ico hf]
  exact bigSep_insert (by rw [Finset.mem_Ico]; omega)

omit [FloatOps F] in
theorem upto_push (f : ℕ) (Φ : ℕ → sProp 𝕄) : upto (f + 1) Φ = iprop(Φ f ∗ upto f Φ) := by
  unfold upto
  rw [← Finset.insert_Ico_right_eq_Ico_add_one (Nat.zero_le f)]
  exact bigSep_insert (by rw [Finset.mem_Ico]; omega)

omit [FloatOps F] in
theorem from_end (Φ : ℕ → sProp 𝕄) : from' 62 Φ = (BI.emp : sProp 𝕄) := by
  unfold from'; rw [Finset.Ico_self]; exact BI.bigSep_empty
omit [FloatOps F] in
theorem upto_zero (Φ : ℕ → sProp 𝕄) : upto 0 Φ = (BI.emp : sProp 𝕄) := by
  unfold upto; rw [Finset.Ico_self]; exact BI.bigSep_empty

/-- What transfer `g` takes of device `c`: the two duty tokens and the piece it lands in. -/
def toSend (c : Dev nD) (g : ℕ) : sProp 𝕄 :=
  iprop(dutyTok rngE (sndC c g) 0 () ∗ dutyTok rngE (rcvC (nxt c) g) 0 () ∗ piece (nxt c) (num (nxt c) (g + 2)) (gd (nxt c)))
/-- What its send leaves. -/
def sent (c : Dev nD) (g : ℕ) : sProp 𝕄 := cred (tallyAt (sndC c g) () N)
/-- What receiving transfer `g` takes, -/
def toRecv (c : Dev nD) (g : ℕ) : sProp 𝕄 := iprop(atPos rngE (rcvC c g) 0 ∅ 0 ∗ cred (tallyAt (rcvC c g) () N))
/-- and leaves beside the piece. -/
def recvd (c : Dev nD) (g : ℕ) : sProp 𝕄 := atPos rngE (rcvC c g) 1 ∅ 0
/-- Device `c`'s position at its send cell `g`, the round open, -/
def sndAt (c : Dev nD) (g : ℕ) : sProp 𝕄 := atPos rngE (sndC c g) 0 ∅ 0
/-- and consumed, the piece sent back. -/
def sndBack (c : Dev nD) (g : ℕ) : sProp 𝕄 := iprop(piece c (num c g) fn ∗ atPos rngE (sndC c g) 1 ∅ 0)

/-- Device `c` before it receives transfer `f`. -/
def ringSt (c : Dev nD) (f : ℕ) : sProp 𝕄 :=
  iprop(from' (f + 2) (toSend gd c) ∗ upto (f + 2) (sent c) ∗ from' f (toRecv c) ∗ upto f (recvd c) ∗ owesE c (owed c (f + 2)))

/-- A send, out of the family. -/
theorem send_fam (c : Dev nD) (f : ℕ) (hf : f < 62) (off : Fin 2 → ℕ)
    (h : ∀ a, off a + S256x2048.size a ≤ S256x131072.size a) (hoff : off = ![0, 2048 * num c f])
    (k : PUnit → Prog (TpuEff nD τ sig (Elt F) Λ₀ .tc) PUnit) (Q : PUnit → sProp 𝕄) :
    iprop(recs fn ch K ∗ piece c (num c f) fn ∗ from' f (toSend gd c) ∗ upto f (sent c) ∗ owesE c (owed c f))
      ⊢ iprop(((from' (f + 1) (toSend gd c) ∗ upto (f + 1) (sent c) ∗ owesE c (owed c (f + 1))) -∗ WP c (k ⟨⟩) Q)
          -∗ WP c (.op (sendH (tgt c) off h f) k) Q) := by
  have hs := send_step fn ch K c (tgt c) (tgt_eq c) f hf off h hoff (gd (nxt c)) k Q
  rw [from_pop f hf, upto_push f]
  unfold toSend sent
  iintro ⟨#HR, Hp, ⟨⟨H1, H2, H3⟩, Hfr⟩, Hup, HO⟩ Hk
  iapply hs $$ [Hp H1 H2 H3 HO]
  · isplitr; · iexact HR
    isplitl [Hp]; · iexact Hp
    isplitl [H3]; · iexact H3
    isplitl [HO]; · iexact HO
    isplitl [H1]; · iexact H1
    iexact H2
  iintro ⟨Hc, HO⟩
  iapply Hk
  isplitl [Hfr]; · iexact Hfr
  isplitl [Hc Hup]
  · isplitl [Hc]; · iexact Hc
    iexact Hup
  iexact HO

/-- A receive, out of the family. -/
theorem recv_fam (c : Dev nD) (f : ℕ) (hf : f < 62) (f' : ℕ) (hf' : f < f') (off : Fin 2 → ℕ)
    (h : ∀ a, off a + S256x2048.size a ≤ S256x131072.size a)
    (k : PUnit → Prog (TpuEff nD τ sig (Elt F) Λ₀ .tc) PUnit) (Q : PUnit → sProp 𝕄) :
    iprop(recs fn ch K ∗ from' f (toRecv c) ∗ upto f (recvd c) ∗ owesE c (owed c f'))
      ⊢ iprop(((from' (f + 1) (toRecv c) ∗ upto (f + 1) (recvd c) ∗ owesE c (owed c f') ∗ piece c (num c (f + 2)) fn) -∗ WP c (k ⟨⟩) Q)
          -∗ WP c (.op (waitH (rcvQ f) off h) k) Q) := by
  have hq : (rcvQ f).val = 127 + f := qn_rcv f hf
  have hs := wait_step fn ch K c (rcvQ f) (iR f) (osem_iR f) (by omega) (by omega) off h (owed c f')
    (mayWait_low c _ f' (by rw [lv_rcv c f hf]; omega)) k Q
  rw [payload_rcv fn ch c f hf] at hs
  rw [from_pop f hf, upto_push f]
  unfold toRecv recvd
  iintro ⟨#HR, ⟨⟨H1, H2⟩, Hfr⟩, Hup, HO⟩ Hk
  iapply hs $$ [H1 H2 HO]
  · isplitr; · iexact HR
    isplitl [H2]; · iexact H2
    isplitl [HO]; · iexact HO
    iexact H1
  iintro ⟨HO, Hat, Hp⟩
  iapply Hk
  isplitl [Hfr]; · iexact Hfr
  isplitl [Hat Hup]
  · isplitl [Hat]; · iexact Hat
    iexact Hup
  isplitl [HO]; · iexact HO
  iexact Hp

/-- The middle of the ring: each piece received is passed on. -/
theorem ring_steps (c : Dev nD) (k : Prog (TpuEff nD τ sig (Elt F) Λ₀ .tc) PUnit) (Q : PUnit → sProp 𝕄) (n f : ℕ) (hn : f + n ≤ 60) :
    iprop(recs fn ch K ∗ ringSt gd c f) ⊢ iprop((ringSt gd c (f + n) -∗ WP c k Q) -∗ WP c (ringSteps c n f k) Q) := by
  induction n generalizing f with
  | zero =>
    iintro ⟨-, H⟩ Hk
    iapply Hk
    iexact H
  | succ n ih =>
    have hr := recv_fam fn ch K c f (by omega) (f + 2) (by omega) (roff c f) (roff_inb c f)
      (fun _ => .op (sendH (tgt c) (roff c f) (roff_inb c f) (f + 2)) fun _ => ringSteps c n (f + 1) k) Q
    have hs := send_fam fn ch gd K c (f + 2) (by omega) (roff c f) (roff_inb c f) (roff_eq c f (by omega))
      (fun _ => ringSteps c n (f + 1) k) Q
    have hi := ih (f + 1) (by omega)
    rw [show f + 1 + n = f + (n + 1) by omega] at hi
    have hg : iprop(from' (f + 2 + 1) (toSend gd c) ∗ upto (f + 2 + 1) (sent c) ∗ from' (f + 1) (toRecv c) ∗ upto (f + 1) (recvd c) ∗ owesE c (owed c (f + 2 + 1)))
        = ringSt gd c (f + 1) := by unfold ringSt; rfl
    rw [← hg] at hi
    unfold ringSteps
    rw [show ringSt gd c f = iprop(from' (f + 2) (toSend gd c) ∗ upto (f + 2) (sent c) ∗ from' f (toRecv c) ∗ upto f (recvd c) ∗ owesE c (owed c (f + 2))) from rfl]
    iintro ⟨#HR, Hts, Hsn, Htr, Hrd, HO⟩ Hk
    iapply hr $$ [Htr Hrd HO]
    · isplitr; · iexact HR
      isplitl [Htr]; · iexact Htr
      isplitl [Hrd]; · iexact Hrd
      iexact HO
    iintro ⟨Htr, Hrd, HO, Hp⟩
    iapply hs $$ [Hts Hsn HO Hp]
    · isplitr; · iexact HR
      isplitl [Hp]; · iexact Hp
      isplitl [Hts]; · iexact Hts
      isplitl [Hsn]; · iexact Hsn
      iexact HO
    iintro ⟨Hts, Hsn, HO⟩
    iapply hi $$ [Hts Hsn Htr Hrd HO]
    · isplitr; · iexact HR
      isplitl [Hts]; · iexact Hts
      isplitl [Hsn]; · iexact Hsn
      isplitl [Htr]; · iexact Htr
      isplitl [Hrd]; · iexact Hrd
      iexact HO
    iexact Hk

/-- The waits for the sends: every piece sent comes back. -/
theorem send_waits (c : Dev nD) (Q : PUnit → sProp 𝕄) (n f : ℕ) (hn : f + n = 62) :
    iprop(recs fn ch K ∗ from' f (sndAt c) ∗ from' f (sent c) ∗ upto f (sndBack fn c) ∗ owesE c 0)
      ⊢ iprop(((upto 62 (sndBack fn c) ∗ owesE c 0) -∗ |={Set.univ}=> Q ⟨⟩) -∗ WP c (sendWaits c n f) Q) := by
  induction n generalizing f with
  | zero =>
    obtain rfl : f = 62 := hn
    unfold sendWaits
    iintro ⟨-, -, -, Hb, HO⟩ Hk
    unfold WP
    rw [wp_ret]
    iapply Hk
    isplitl [Hb] <;> iassumption
  | succ n ih =>
    have hf : f < 62 := by omega
    have hq : (sndQ f).val = 65 + f := qn_snd f hf
    have hs := wait_step fn ch K c (sndQ f) (iS f) (osem_iS f) (by omega) (by omega) (woff c f) (woff_inb c f) 0
      (by rw [MayWait_zero]; iintro -; iempintro) (fun _ => sendWaits c n (f + 1)) Q
    rw [payload_snd fn ch c f hf] at hs
    have hi := ih (f + 1) (by omega)
    rw [upto_push f] at hi
    rw [from_pop f hf, from_pop f hf]
    unfold sendWaits
    iintro ⟨#HR, ⟨Ha, Hfa⟩, ⟨Hc, Hfc⟩, Hup, HO⟩ Hk
    iapply hs $$ [Ha Hc HO]
    · isplitr; · iexact HR
      isplitl [Hc]; · unfold sent; iexact Hc
      isplitl [HO]; · iexact HO
      unfold sndAt; iexact Ha
    iintro ⟨HO, Ha, Hp⟩
    iapply hi $$ [Hfa Hfc Hup HO Ha Hp]
    · isplitr; · iexact HR
      isplitl [Hfa]; · iexact Hfa
      isplitl [Hfc]; · iexact Hfc
      isplitl [Hup Ha Hp]
      · isplitl [Ha Hp]
        · unfold sndBack
          isplitl [Hp] <;> iassumption
        iexact Hup
      iexact HO
    iexact Hk

omit [FloatOps F] in
/-- The pieces sent and the last two received are the whole result array. -/
theorem pieces_back (c : Dev nD) :
    iprop(upto 62 (sndBack fn c) ∗ piece c (num c 62) fn ∗ piece c (num c 63) fn)
      ⊢ iprop((((c : Thread nD τ).loc main_v1) ↦{fullShare} fn) ∗ upto 62 fun g => atPos rngE (sndC c g) 1 ∅ 0) := by
  rw [pieces_eq c fn, show (bigSep (Finset.Ico 0 64) fun f => (piece c (num c f) fn : sProp 𝕄)) = upto (62 + 1 + 1) fun f => piece c (num c f) fn from rfl,
    upto_push (62 + 1), upto_push 62]
  have h : upto 62 (sndBack fn c) = iprop((upto 62 fun f => piece c (num c f) fn) ∗ upto 62 fun g => atPos rngE (sndC c g) 1 ∅ 0) := by
    unfold upto sndBack
    exact bigSep_sep' _ _ _
  rw [h]
  iintro ⟨⟨H1, H2⟩, H3, H4⟩
  isplitr [H2]
  · isplitl [H4]; · iexact H4
    isplitl [H3] <;> iassumption
  iexact H2

/-- The whole ring. -/
theorem ring_run (c : Dev nD) (Q : PUnit → sProp 𝕄) :
    iprop(recs fn ch K ∗ piece c (num c 0) fn ∗ piece c (num c 1) fn ∗ from' 0 (toSend gd c) ∗ from' 0 (toRecv c) ∗ from' 0 (sndAt c) ∗ owesE c (owed c 0))
      ⊢ iprop((((((c : Thread nD τ).loc main_v1) ↦{fullShare} fn) ∗ (upto 62 fun g => atPos rngE (sndC c g) 1 ∅ 0) ∗ upto 62 (recvd c) ∗ owesE c 0) -∗ |={Set.univ}=> Q ⟨⟩)
          -∗ WP c (ringProg c) Q) := by
  have h0 := send_fam fn ch gd K c 0 (by omega) (soff c 0) (soff_inb c 0) (soff_eq c 0 (by omega))
    (fun _ => .op (sendH (tgt c) (soff c 1) (soff_inb c 1) 1) fun _ => ringSteps c 60 0
      (.op (waitH (rcvQ 60) (roff c 60) (roff_inb c 60)) fun _ => .op (waitH (rcvQ 61) (roff c 61) (roff_inb c 61)) fun _ => sendWaits c 62 0)) Q
  have h1 := send_fam fn ch gd K c 1 (by omega) (soff c 1) (soff_inb c 1) (soff_eq c 1 (by omega))
    (fun _ => ringSteps c 60 0
      (.op (waitH (rcvQ 60) (roff c 60) (roff_inb c 60)) fun _ => .op (waitH (rcvQ 61) (roff c 61) (roff_inb c 61)) fun _ => sendWaits c 62 0)) Q
  have h2 := ring_steps fn ch gd K c
    (.op (waitH (rcvQ 60) (roff c 60) (roff_inb c 60)) fun _ => .op (waitH (rcvQ 61) (roff c 61) (roff_inb c 61)) fun _ => sendWaits c 62 0) Q 60 0 (by omega)
  have h3 := recv_fam fn ch K c 60 (by omega) 62 (by omega) (roff c 60) (roff_inb c 60)
    (fun _ => .op (waitH (rcvQ 61) (roff c 61) (roff_inb c 61)) fun _ => sendWaits c 62 0) Q
  have h4 := recv_fam fn ch K c 61 (by omega) 62 (by omega) (roff c 61) (roff_inb c 61) (fun _ => sendWaits c 62 0) Q
  have h5 := send_waits fn ch K c Q 62 0 rfl
  have h6 := pieces_back fn c
  unfold ringSt at h2
  rw [upto_zero] at h2 h5 h0
  have he : (upto 62 (sent c) : sProp 𝕄) = from' 0 (sent c) := rfl
  rw [owed_end] at h3 h4
  simp only [Nat.zero_add, Nat.reduceAdd] at h0 h1 h2 h3 h4
  rw [owed_end] at h2
  unfold ringProg
  iintro ⟨#HR, Hp0, Hp1, Hts, Htr, Hsa, HO⟩ Hk
  iapply h0 $$ [Hp0 Hts HO]
  · isplitr; · iexact HR
    isplitl [Hp0]; · iexact Hp0
    isplitl [Hts]; · iexact Hts
    isplitr; · iempintro
    iexact HO
  iintro ⟨Hts, Hsn, HO⟩
  iapply h1 $$ [Hp1 Hts Hsn HO]
  · isplitr; · iexact HR
    isplitl [Hp1]; · iexact Hp1
    isplitl [Hts]; · iexact Hts
    isplitl [Hsn]; · iexact Hsn
    iexact HO
  iintro ⟨Hts, Hsn, HO⟩
  iapply h2 $$ [Hts Hsn Htr HO]
  · isplitr; · iexact HR
    isplitl [Hts]; · iexact Hts
    isplitl [Hsn]; · iexact Hsn
    isplitl [Htr]; · iexact Htr
    isplitr; · iempintro
    iexact HO
  iintro ⟨-, Hsn, Htr, Hrd, HO⟩
  iapply h3 $$ [Htr Hrd HO]
  · isplitr; · iexact HR
    isplitl [Htr]; · iexact Htr
    isplitl [Hrd]; · iexact Hrd
    iexact HO
  iintro ⟨Htr, Hrd, HO, Hp62⟩
  iapply h4 $$ [Htr Hrd HO]
  · isplitr; · iexact HR
    isplitl [Htr]; · iexact Htr
    isplitl [Hrd]; · iexact Hrd
    iexact HO
  iintro ⟨-, Hrd, HO, Hp63⟩
  iapply h5 $$ [Hsa Hsn HO]
  · isplitr; · iexact HR
    isplitl [Hsa]; · iexact Hsa
    isplitl [Hsn]; · iexact Hsn
    isplitr; · iempintro
    iexact HO
  iintro ⟨Hb, HO⟩
  ihave Hw := h6 $$ [Hb Hp62 Hp63]
  · isplitl [Hb]; · iexact Hb
    isplitl [Hp62] <;> iassumption
  icases Hw with ⟨Hw, Hs1⟩
  iapply Hk
  isplitl [Hw]; · iexact Hw
  isplitl [Hs1]; · iexact Hs1
  isplitl [Hrd] <;> iassumption

end Cert.Proof

end
-- ==== Proof.Place.lean ====
/-
  What the result array holds at the end — the devices' chunks side by side — and the copy by which a device puts its
  own chunk there.
-/
module

public import proofs.«01_k».proof.Proof.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (fn : (main_v1 : Ref sig .tc).ty.Contents (Elt F)) (ch : Dev nD → (cc0_scratch0 : Ref sig .tc).ty.Contents (Elt F))
variable (K : Dev nD × Fin 187 → ℕ)

/-! ## The contents -/

omit [FloatOps F] in
theorem fn_dev (i : S256x131072.Idx) : (i 1).val / 4096 < 32 := by
  have h : (i 1).val < 131072 := (i 1).isLt
  omega

/-- The entry of a device's chunk that an entry of the whole array is. -/
def inChunk (i : S256x131072.Idx) : S256x4096.Idx
  | 0 => ⟨(i 0).val, (i 0).isLt⟩
  | 1 => ⟨(i 1).val % 4096, Nat.mod_lt _ (by decide)⟩

/-- The chunks side by side. -/
def wholeOf (ch : Dev nD → (cc0_scratch0 : Ref sig .tc).ty.Contents (Elt F)) : (main_v1 : Ref sig .tc).ty.Contents (Elt F) :=
  fun i => ch ⟨(i 1).val / 4096, fn_dev i⟩ (inChunk i)

omit [FloatOps F] in
/-- A device's block of the chunks side by side is its chunk. -/
theorem read_wholeOf (c : Dev nD) (off : Fin 2 → ℕ) (h : ∀ a, off a + S256x4096.size a ≤ S256x131072.size a) (hk : off = ![0, 4096 * c.val]) :
    (blkM off h).view.read (Elt F) (wholeOf ch) = chM.view.read (Elt F) (ch c) := by
  subst hk
  funext j
  have hj : (j 1).val < 4096 := (j 1).isLt
  have h0 : (((blkM _ h).view.emb j) 0).val = 0 + (j 0).val := by
    show 0 + 1 * (j 0).val = _; omega
  have h1 : (((blkM _ h).view.emb j) 1).val = 4096 * c.val + (j 1).val := by
    show 4096 * c.val + 1 * (j 1).val = _; omega
  show wholeOf ch ((blkM _ h).view.emb j) = ch c j
  unfold wholeOf
  have hd : (⟨(((blkM _ h).view.emb j) 1).val / 4096, fn_dev _⟩ : Dev nD) = c := by
    apply Fin.ext
    show (((blkM _ h).view.emb j) 1).val / 4096 = c.val
    omega
  have hi : inChunk ((blkM _ h).view.emb j) = j := by
    funext a
    apply Fin.ext
    match a with
    | 0 =>
      show (((blkM _ h).view.emb j) 0).val = (j 0).val
      omega
    | 1 =>
      show (((blkM _ h).view.emb j) 1).val % 4096 = (j 1).val
      omega
  rw [hd, hi]

/-! ## The copy into place -/

/-- Device `c` copies its chunk into its block of the result. -/
theorem local_step (c : Dev nD) (off : Fin 2 → ℕ) (h : ∀ a, off a + S256x4096.size a ≤ S256x131072.size a) (hk : off = ![0, 4096 * c.val])
    (gd : (main_v1 : Ref sig .tc).ty.Contents (Elt F))
    (k : PUnit → Prog (TpuEff nD τ sig (Elt F) Λ₀ .tc) PUnit) (Q : PUnit → sProp 𝕄) :
    iprop(recs (wholeOf ch) ch K ∗ chunkAt c (ch c) ∗ (piece c (num c 0) gd ∗ piece c (num c 1) gd) ∗ dutyTok rngE (locC c) 0 ())
      ⊢ iprop((cred (tallyAt (locC c) () NL) -∗ WP c (k ⟨⟩) Q)
          -∗ WP c (.op (.enqueueDma chM (.here (blkM off h)) (.dma locQ) (Memref.isWhole_whole _).wordExact (View.wordExact_bits rfl) ⟨Or.inl rfl, trivial⟩) k) Q) := by
  have hset := blk_set off h c hk
  have hne : num c 0 ≠ num c 1 := by unfold num; omega
  have hp (g : (main_v1 : Ref sig .tc).ty.Contents (Elt F)) :
      (iprop(piece c (num c 0) g ∗ piece c (num c 1) g) : sProp 𝕄) = ((blkM off h).view.loc (c : Thread nD τ) ↦[(blkM off h).view.set]{fullShare} g) := by
    unfold piece; rw [hset]
    exact (Entails.antisymm (pointsTo_union (pcSet_disj hne)).1 (pointsTo_union (pcSet_disj hne)).2).symm
  have hc : (chunkAt c (ch c) : sProp 𝕄) = (chM.view.loc (c : Thread nD τ) ↦[chM.view.set]{fullShare} ch c) := by
    unfold chunkAt; rw [View.set_whole]
  have hs : iprop(cellInv rngE (Rd (wholeOf ch) ch) (K (c, iL)) (locC c)
          ∗ (chM.view.loc (c : Thread nD τ) ↦[chM.view.set]{fullShare} ch c)
          ∗ ((blkM off h).view.loc (c : Thread nD τ) ↦[(blkM off h).view.set]{fullShare} gd)
          ∗ dutyTok rngE (locC c) 0 () ∗ reached rngE (locC c) 0)
        ⊢ iprop((cred (tallyAt (locC c) () NL) -∗ WP c (k ⟨⟩) Q)
            -∗ WP c (.op (.enqueueDma chM (.here (blkM off h)) (.dma locQ) (Memref.isWhole_whole _).wordExact (View.wordExact_bits rfl) ⟨Or.inl rfl, trivial⟩) k) Q) :=
    Rounds.wp_copy_pointsTo Variants.none rngE (Rd (wholeOf ch) ch) (c : Thread nD τ) none
      (src := chM) (dst := blkM off h) (sem := .dma locQ) (κ := K (c, iL)) (r := 0) (d := ()) (fs := ch c) (fd := gd)
      (by rw [duties_at (wholeOf ch) ch c _ (by rw [qn_loc]; omega)]; exact Finset.mem_singleton_self _)
      () NL (show (blkM off h).view.amount (.dma locQ) = NL from blk_NL off h) (amount_loc (wholeOf ch) ch c ())
      (by
        rw [payload_loc (wholeOf ch) ch c, hp, hc]
        refine sep_mono_left (Entails.of_eq (pointsTo_congr fun i hi => ?_))
        rw [← read_wholeOf ch c off h hk]
        exact (congrFun (View.write_read_eq_piecewise (v := (blkM off h).view) gd (wholeOf ch) Finset.univ) i).trans (Finset.piecewise_eq_of_mem _ _ _ hi))
  rw [hp, hc]
  iintro ⟨#HR, Hsrc, Hdst, Ht⟩ Hk
  ihave #HI := (recs_inv (wholeOf ch) ch K c iL _ osem_iL) $$ HR
  ihave #Hr := (recs_reached (wholeOf ch) ch K c iL _ osem_iL) $$ HR
  iapply hs $$ [Hsrc Hdst Ht]
  · isplitr; · iexact HI
    isplitl [Hsrc]; · iexact Hsrc
    isplitl [Hdst]; · iexact Hdst
    isplitl [Ht]; · iexact Ht
    iexact Hr
  iexact Hk

/-- and waits for the copy. -/
theorem local_wait (c : Dev nD) (off : Fin 2 → ℕ) (h : ∀ a, off a + S256x4096.size a ≤ S256x131072.size a)
    (k : PUnit → Prog (TpuEff nD τ sig (Elt F) Λ₀ .tc) PUnit) (Q : PUnit → sProp 𝕄) :
    iprop(recs fn ch K ∗ cred (tallyAt (locC c) () NL) ∗ owesE c (owed c 0) ∗ atPos rngE (locC c) 0 ∅ 0)
      ⊢ iprop(((owesE c (owed c 0) ∗ atPos rngE (locC c) 1 ∅ 0 ∗ (piece c (num c 0) fn ∗ piece c (num c 1) fn) ∗ chunkAt c (ch c)) -∗ WP c (k ⟨⟩) Q)
          -∗ WP c (.op (.waitDma2 locQ chM (blkM off h) (Memref.isWhole_whole _).wordExact (View.wordExact_bits rfl)) k) Q) := by
  have hw (K' : PUnit → sProp 𝕄) : wpE (defs₀ (F := F)) Variants.none (c : Thread nD τ) none Set.univ
      (.waitDma2 locQ chM (blkM off h) (Memref.isWhole_whole _).wordExact (View.wordExact_bits rfl)) K'
      = waitSpec (c : Thread nD τ) Set.univ (.dma locQ) NL K' := by
    rw [← blk_NL off h]
    exact wpE_waitDma2_eq Variants.none (c : Thread nD τ) none Set.univ K'
  have hs (W : Waits sig Unit) :
      iprop(cellInv rngE (Rd fn ch) (K (c, iL)) (locC c) ∗ cred (tallyAt (locC c) () NL)
          ∗ owes (c : Thread nD τ) (owed c 0) W ∗ MayWait (c : Thread nD τ) (.dma locQ) () (owed c 0) ∗ atPos rngE (locC c) 0 ∅ 0)
        ⊢ iprop(((owes (c : Thread nD τ) (owed c 0) (insert (SemLoc.dma locQ, ()) W) ∗ atPos rngE (locC c) (0 + 1) ∅ 0
              ∗ reached rngE (locC c) (0 + 1)
              ∗ bigSep ((Rd fn ch).duties (locC c) 0 \ ∅) (fun d => (Rd fn ch).payload (locC c) 0 d)) -∗ WP c (k ⟨⟩) Q)
            -∗ WP c (.op (.waitDma2 locQ chM (blkM off h) (Memref.isWhole_whole _).wordExact (View.wordExact_bits rfl)) k) Q) :=
    Rounds.wp_wait_rest_token Variants.none rngE (Rd fn ch) (c : Thread nD τ) none (κ := K (c, iL))
      (w := .waitDma2 locQ chM (blkM off h) (Memref.isWhole_whole _).wordExact (View.wordExact_bits rfl)) (sm := .dma locQ) (k' := NL) (Γ := ∅) (Es := Set.univ)
      (defs := defs₀) (k := k) (Q := Q) hw (Set.mem_univ _) () (O := owed c 0) (W := W) (R := 0) (m := 0) (T := ∅)
      ((Nat.zero_add NL).trans (expect_loc fn ch c).symm)
  rw [rest_at fn ch c (.dma locQ) (by rw [qn_loc]; omega), payload_loc fn ch c] at hs
  have hm' : recs fn ch K ⊢ MayWait (c : Thread nD τ) (.dma locQ) () (owed c 0) := by
    unfold recs
    iintro ⟨-, -, H⟩
    iapply (mayWait_low c (.dma locQ) 0 (by unfold lv; rw [qn_loc, if_neg (by omega)]))
    iexact H
  unfold owesE
  iintro ⟨#HR, Hc, ⟨%W, HO⟩, Hat⟩ Hk
  ihave #HI := (recs_inv fn ch K c iL _ osem_iL) $$ HR
  ihave Hm := hm' $$ HR
  iapply (hs W) $$ [Hc HO Hat Hm]
  · isplitr; · iexact HI
    isplitl [Hc]; · iexact Hc
    isplitl [HO]; · iexact HO
    isplitl [Hm]; · iexact Hm
    iexact Hat
  iintro ⟨HO, Hat, -, Hp⟩
  iapply Hk
  isplitl [HO]; · iexists _; iexact HO
  isplitl [Hat]; · iexact Hat
  iexact Hp

end Cert.Proof

end
-- ==== Proof.Body.lean ====
/-
  The body on one device, and the closing of its own semaphores.
-/
module

public import proofs.«01_k».proof.Proof.RingRun
public import proofs.«01_k».proof.Proof.Place

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (ch : Dev nD → (cc0_scratch0 : Ref sig .tc).ty.Contents (Elt F))
variable (gd : Dev nD → (main_v1 : Ref sig .tc).ty.Contents (Elt F))
variable (K : Dev nD × Fin 187 → ℕ)

/-! ## The own semaphores, group by group -/

set_option backward.proofsInPublic true in
/-- Where the unused semaphore number `f` stands among the own ones. -/
def iT (f : ℕ) : Fin 187 := ⟨f % 62, by have := Nat.mod_lt f (show 0 < 62 by decide); omega⟩

theorem osem_iT (f : ℕ) : qn (osem (iT f)) = 3 + f % 62 := rfl

omit [FloatOps F] in
theorem sep_over_image (g : ℕ → Fin 187) (S : Finset ℕ) (hg : Set.InjOn g S) (Ψ : Fin 187 → sProp (MT nD τ sig Unit (Elt F) ℕ UTwo ℕ)) :
    bigSep (S.image g) Ψ = bigSep S fun f => Ψ (g f) := by
  induction S using Finset.induction_on with
  | empty => rw [Finset.image_empty, BI.bigSep_empty, BI.bigSep_empty]
  | insert a S ha ih =>
    have hn : g a ∉ S.image g := fun h => by
      obtain ⟨b, hb, hab⟩ := Finset.mem_image.mp h
      exact ha (hg (Finset.mem_coe.mpr (Finset.mem_insert_of_mem hb)) (Finset.mem_coe.mpr (Finset.mem_insert_self a S)) hab ▸ hb)
    rw [Finset.image_insert, bigSep_insert hn, bigSep_insert ha, ih (hg.mono (by rw [Finset.coe_insert]; exact Set.subset_insert _ _))]

omit [FloatOps F] in
/-- The 187 own semaphores: the unused, the send, the receive ones and the local copy's. -/
theorem own_split (Ψ : Fin 187 → sProp (MT nD τ sig Unit (Elt F) ℕ UTwo ℕ)) :
    bigSep Finset.univ Ψ = iprop((upto 62 fun f => Ψ (iT f)) ∗ (upto 62 fun f => Ψ (iS f)) ∗ (upto 62 fun f => Ψ (iR f)) ∗ Ψ iL) := by
  have hlt {f : ℕ} (hf : f ∈ Finset.Ico 0 62) : f % 62 = f := Nat.mod_eq_of_lt (Finset.mem_Ico.mp hf).2
  have hu : (Finset.univ : Finset (Fin 187))
      = (Finset.Ico 0 62).image iT ∪ ((Finset.Ico 0 62).image iS ∪ ((Finset.Ico 0 62).image iR ∪ {iL})) := by
    ext k
    have hk := k.isLt
    simp only [Finset.mem_univ, Finset.mem_union, Finset.mem_image, Finset.mem_singleton, true_iff]
    by_cases h1 : k.val < 62
    · exact Or.inl ⟨k.val, Finset.mem_Ico.mpr ⟨Nat.zero_le _, h1⟩, Fin.ext (Nat.mod_eq_of_lt h1)⟩
    · by_cases h2 : k.val < 124
      · exact Or.inr (Or.inl ⟨k.val - 62, Finset.mem_Ico.mpr ⟨Nat.zero_le _, by omega⟩, Fin.ext (by show 62 + (k.val - 62) % 62 = k.val; omega)⟩)
      · by_cases h3 : k.val < 186
        · exact Or.inr (Or.inr (Or.inl ⟨k.val - 124, Finset.mem_Ico.mpr ⟨Nat.zero_le _, by omega⟩, Fin.ext (by show 124 + (k.val - 124) % 62 = k.val; omega)⟩))
        · exact Or.inr (Or.inr (Or.inr (Fin.ext (by show k.val = 186; omega))))
  have e1 : Set.InjOn iT (Finset.Ico 0 62 : Finset ℕ) := fun a ha b hb h => by
    have := congrArg Fin.val h
    have h' : a % 62 = b % 62 := this
    rw [hlt ha, hlt hb] at h'; exact h'
  have e2 : Set.InjOn iS (Finset.Ico 0 62 : Finset ℕ) := fun a ha b hb h => by
    have := congrArg Fin.val h
    have h' : 62 + a % 62 = 62 + b % 62 := this
    rw [hlt ha, hlt hb] at h'; omega
  have e3 : Set.InjOn iR (Finset.Ico 0 62 : Finset ℕ) := fun a ha b hb h => by
    have := congrArg Fin.val h
    have h' : 124 + a % 62 = 124 + b % 62 := this
    rw [hlt ha, hlt hb] at h'; omega
  have d3 : Disjoint ((Finset.Ico 0 62).image iR) {iL} := by
    rw [Finset.disjoint_singleton_right]
    intro h
    obtain ⟨a, -, ha⟩ := Finset.mem_image.mp h
    have h' : 124 + a % 62 = 186 := congrArg Fin.val ha
    omega
  have d2 : Disjoint ((Finset.Ico 0 62).image iS) ((Finset.Ico 0 62).image iR ∪ {iL}) := by
    rw [Finset.disjoint_left]
    intro k h h2
    obtain ⟨a, -, rfl⟩ := Finset.mem_image.mp h
    rcases Finset.mem_union.mp h2 with h3 | h3
    · obtain ⟨b, -, hb⟩ := Finset.mem_image.mp h3
      have h' : 124 + b % 62 = 62 + a % 62 := congrArg Fin.val hb
      omega
    · have h' : 62 + a % 62 = 186 := congrArg Fin.val (Finset.mem_singleton.mp h3)
      omega
  have d1 : Disjoint ((Finset.Ico 0 62).image iT) ((Finset.Ico 0 62).image iS ∪ ((Finset.Ico 0 62).image iR ∪ {iL})) := by
    rw [Finset.disjoint_left]
    intro k h h2
    obtain ⟨a, -, rfl⟩ := Finset.mem_image.mp h
    rcases Finset.mem_union.mp h2 with h3 | h3
    · obtain ⟨b, -, hb⟩ := Finset.mem_image.mp h3
      have h' : 62 + b % 62 = a % 62 := congrArg Fin.val hb
      omega
    · rcases Finset.mem_union.mp h3 with h4 | h4
      · obtain ⟨b, -, hb⟩ := Finset.mem_image.mp h4
        have h' : 124 + b % 62 = a % 62 := congrArg Fin.val hb
        omega
      · have h' : a % 62 = 186 := congrArg Fin.val (Finset.mem_singleton.mp h4)
        omega
  have h := congrArg (fun S => bigSep S Ψ) hu
  refine h.trans ?_
  show bigSep _ Ψ = _
  rw [BI.bigSep_union d1, BI.bigSep_union d2, BI.bigSep_union d3, sep_over_image _ _ e1, sep_over_image _ _ e2, sep_over_image _ _ e3, bigSep_singleton]
  rfl

/-- A device's position at its own semaphore `k` before the body, -/
def pos0 (c : Dev nD) (k : Fin 187) : sProp 𝕄 := atPos rngE (kcell (c, k)) 0 ∅ 0
/-- and after it: a used one has consumed its round. -/
def pos1 (c : Dev nD) (k : Fin 187) : sProp 𝕄 := atPos rngE (kcell (c, k)) (if k.val < 62 then 0 else 1) ∅ 0

omit [FloatOps F] in
theorem pos0_split (c : Dev nD) :
    bigSep Finset.univ (pos0 c) = iprop((upto 62 fun f => pos0 c (iT f)) ∗ upto 62 (sndAt c) ∗ (upto 62 fun f => atPos rngE (rcvC c f) 0 ∅ 0) ∗ (atPos rngE (locC c) 0 ∅ 0 : sProp 𝕄)) := by
  rw [own_split]
  unfold pos0 sndAt kcell
  simp only [osem_iS, osem_iR, osem_iL]

omit [FloatOps F] in
theorem pos1_split (c : Dev nD) :
    bigSep Finset.univ (pos1 c) = iprop((upto 62 fun f => pos0 c (iT f)) ∗ (upto 62 fun f => atPos rngE (sndC c f) 1 ∅ 0) ∗ upto 62 (recvd c) ∗ (atPos rngE (locC c) 1 ∅ 0 : sProp 𝕄)) := by
  rw [own_split]
  have h1 (f : ℕ) : (pos1 c (iT f) : sProp 𝕄) = pos0 c (iT f) := by
    unfold pos1 pos0; rw [if_pos (show (iT f).val < 62 from Nat.mod_lt _ (by decide))]
  have h2 (f : ℕ) : (pos1 c (iS f) : sProp 𝕄) = atPos rngE (sndC c f) 1 ∅ 0 := by
    unfold pos1 kcell; rw [if_neg (show ¬ (iS f).val < 62 from by show ¬ 62 + f % 62 < 62; omega)]; simp only [osem_iS]
  have h3 (f : ℕ) : (pos1 c (iR f) : sProp 𝕄) = recvd c f := by
    unfold pos1 kcell recvd; rw [if_neg (show ¬ (iR f).val < 62 from by show ¬ 124 + f % 62 < 62; omega)]; simp only [osem_iR]
  have h4 : (pos1 c iL : sProp 𝕄) = atPos rngE (locC c) 1 ∅ 0 := by
    unfold pos1 kcell; rw [if_neg (show ¬ iL.val < 62 from by decide)]; simp only [osem_iL]
  simp only [h1, h2, h3, h4]

omit [FloatOps F] in
/-- One own cell closes: its counter is the core's again, at zero. -/
theorem close_one (fn : (main_v1 : Ref sig .tc).ty.Contents (Elt F)) (c : Dev nD) (k : Fin 187) :
    iprop(recs fn ch K ∗ pos1 c k) ⊢ |={Set.univ}=> semVal ((c : Thread nD τ), osem k) 0 := by
  have hR (r : ℕ) (hr : (if k.val < 62 then 0 else 1) ≤ r) : (Rd fn ch).duties ((c : Thread nD τ), osem k) r = ∅ := by
    by_cases hk : k.val < 62
    · exact duties_low fn ch c (osem k) (by show 3 + k.val < 65; omega) r
    · rw [if_neg hk] at hr; exact duties_later fn ch _ r hr
  have hc : iprop(cellInv rngE (Rd fn ch) (K (c, k)) ((c : Thread nD τ), osem k) ∗ atPos rngE ((c : Thread nD τ), osem k) (if k.val < 62 then 0 else 1) ∅ 0)
      ⊢ |={Set.univ}=> semVal ((c : Thread nD τ), osem k) 0 :=
    Rounds.cell_close rngE (Rd fn ch) (Set.mem_univ (K (c, k))) (fun h => h) (R := if k.val < 62 then 0 else 1) hR
  unfold pos1
  iintro ⟨#HR, Ha⟩
  ihave #HI := (recs_inv fn ch K c k _ rfl) $$ HR
  iapply hc
  isplitr; · iexact HI
  iexact Ha

omit [FloatOps F] in
theorem sep_with {I : Type} [DecidableEq I] {R : sProp (MT nD τ sig Unit (Elt F) ℕ UTwo ℕ)} [BI.Persistent R] {S : Finset I}
    {Φ Ψ : I → sProp (MT nD τ sig Unit (Elt F) ℕ UTwo ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem close_all (fn : (main_v1 : Ref sig .tc).ty.Contents (Elt F)) (c : Dev nD) :
    iprop(recs fn ch K ∗ bigSep Finset.univ (pos1 c)) ⊢ |={Set.univ}=> ownSems0 osem c := by
  unfold ownSems0
  exact (sep_with fun k _ => close_one ch K fn c k).trans (bigSep_fupd _ _)

/-! ## The body -/

/-- What the body reads of the statistics: the maxima and the sums. -/
def stM (s : (cc0_stg2_0 : Ref sig .tc).ty.Contents (Elt F)) : Vec F S32x1x256 .f32 :=
  (Memref.whole cc0_stg2_0 : Memref sig .tc .vmem S32x2x256 .f32).view.readAt (Elt F)
    (Rect.unit (s := S32x2x256) ![0, 0, 0] S32x1x256.size inb_S32x2x256_S32x1x256_0_0_0).toLoadRect s
def stS (s : (cc0_stg2_0 : Ref sig .tc).ty.Contents (Elt F)) : Vec F S32x1x256 .f32 :=
  (Memref.whole cc0_stg2_0 : Memref sig .tc .vmem S32x2x256 .f32).view.readAt (Elt F)
    (Rect.unit (s := S32x2x256) ![0, 1, 0] S32x1x256.size inb_S32x2x256_S32x1x256_0_1_0).toLoadRect s

/-- The chunk the body computes. -/
def chunkOf (x : Vec F S256x512 .f32) (w : Vec F S512x4096 .f32) (s : (cc0_stg2_0 : Ref sig .tc).ty.Contents (Elt F)) : Vec F S256x4096 .f32 :=
  k0_pay11 (k0_pay2 x w) (k0_pay7 (stM s)) (k0_pay8 (stS s)) (k0_pay9 (stM s)) (k0_pay10 (stM s)) (k0_pay4 x w)

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (Memref.whole cc0_stg0_0 : Memref sig .tc .vmem S256x512 .f32).view.readAt (Elt F) (Rect.unit (s := S256x512) ![0, 0] S256x512.size inb_S256x512_S256x512_0_0).toLoadRect f = f :=
  Memref.readAt_unit_zero (Elt F) cc0_stg0_0 hz2 _ f
omit [FloatOps F] in
theorem read_w (f : (cc0_stg1_0 : Ref sig .tc).ty.Contents (Elt F)) :
    (Memref.whole cc0_stg1_0 : Memref sig .tc .vmem S512x4096 .f32).view.readAt (Elt F) (Rect.unit (s := S512x4096) ![0, 0] S512x4096.size inb_S512x4096_S512x4096_0_0).toLoadRect f = f :=
  Memref.readAt_unit_zero (Elt F) cc0_stg1_0 hz2 _ f
omit [FloatOps F] in
theorem read_ch (f : (cc0_scratch0 : Ref sig .tc).ty.Contents (Elt F)) :
    (chM : Memref sig .tc .vmem S256x4096 .f32).view.readAt (Elt F) (Rect.unit (s := S256x4096) ![0, 0] S256x4096.size inb_S256x4096_S256x4096_0_0).toLoadRect f = f :=
  Memref.readAt_unit_zero (Elt F) cc0_scratch0 hz2 _ f
omit [FloatOps F] in
theorem write_ch (f w : (cc0_scratch0 : Ref sig .tc).ty.Contents (Elt F)) :
    ((chM : Memref sig .tc .vmem S256x4096 .f32).access (Rect.unit (s := S256x4096) ![0, 0] S256x4096.size inb_S256x4096_S256x4096_0_0) : View sig .tc _ _ _).write (Elt F) f w Finset.univ = w :=
  Memref.write_access_unit_zero_univ (Elt F) cc0_scratch0 hz2 _ f w

/-- What a device's body starts from, its staged blocks `x`, `w` and `s`, -/
def bodyPre (c : Dev nD) (x : (cc0_stg0_0 : Ref sig .tc).ty.Contents (Elt F)) (w : (cc0_stg1_0 : Ref sig .tc).ty.Contents (Elt F))
    (s : (cc0_stg2_0 : Ref sig .tc).ty.Contents (Elt F)) : sProp 𝕄 :=
  iprop(recs (wholeOf ch) ch K
    ∗ ((((c : Thread nD τ).loc cc0_stg0_0) ↦{fullShare} x) ∗ (((c : Thread nD τ).loc cc0_stg1_0) ↦{fullShare} w) ∗ (((c : Thread nD τ).loc cc0_stg2_0) ↦{fullShare} s))
    ∗ ((∃ f, ((c : Thread nD τ).loc cc0_scratch0) ↦{fullShare} f) ∗ (∃ f, ((c : Thread nD τ).loc cc0_scratch1) ↦{fullShare} f))
    ∗ (piece c (num c 0) (gd c) ∗ piece c (num c 1) (gd c)) ∗ from' 0 (toSend gd c) ∗ (from' 0 fun g => cred (tallyAt (rcvC c g) () N))
    ∗ bigSep Finset.univ (pos0 c) ∗ dutyTok rngE (locC c) 0 () ∗ owesE c (owed c 0))

/-- and ends with. -/
def bodyPost (c : Dev nD) (x : (cc0_stg0_0 : Ref sig .tc).ty.Contents (Elt F)) (w : (cc0_stg1_0 : Ref sig .tc).ty.Contents (Elt F))
    (s : (cc0_stg2_0 : Ref sig .tc).ty.Contents (Elt F)) : sProp 𝕄 :=
  iprop(((((c : Thread nD τ).loc cc0_stg0_0) ↦{fullShare} x) ∗ (((c : Thread nD τ).loc cc0_stg1_0) ↦{fullShare} w) ∗ (((c : Thread nD τ).loc cc0_stg2_0) ↦{fullShare} s))
    ∗ ((∃ f, ((c : Thread nD τ).loc cc0_scratch0) ↦{fullShare} f) ∗ (∃ f, ((c : Thread nD τ).loc cc0_scratch1) ↦{fullShare} f))
    ∗ (((c : Thread nD τ).loc main_v1) ↦{fullShare} wholeOf ch) ∗ ownSems0 osem c ∗ owesE c 0)

set_option maxHeartbeats 800000 in
theorem body_run (c : Dev nD) (x : (cc0_stg0_0 : Ref sig .tc).ty.Contents (Elt F)) (w : (cc0_stg1_0 : Ref sig .tc).ty.Contents (Elt F))
    (s : (cc0_stg2_0 : Ref sig .tc).ty.Contents (Elt F)) (hch : ch c = chunkOf x w s) (Q : PUnit → sProp 𝕄) :
    iprop(bodyPre ch gd K c x w s ∗ (bodyPost ch c x w s -∗ Q ⟨⟩)) ⊢ WP c (bodyProg (F := F)) Q := by
  have hl := local_step ch K c (k0_off1 c) (k0_off1_inb c) (k0_off1_eq c) (gd c)
    (fun _ => .op (.waitDma2 locQ chM (blkM (k0_off1 c) (k0_off1_inb c)) (Memref.isWhole_whole _).wordExact (View.wordExact_bits rfl)) fun _ => ringProg c) Q
  have hw := local_wait (wholeOf ch) ch K c (k0_off1 c) (k0_off1_inb c) (fun _ => ringProg c) Q
  have hr := ring_run (wholeOf ch) ch gd K c Q
  have hcl := close_all ch K (wholeOf ch) c
  rw [pos1_split] at hcl
  unfold chunkAt at hl hw
  unfold bodyProg k0_part1_skel
  simp only [Prog.lift, Prog.bind_op, Prog.bind_ret, Prog.pure_eq_ret]
  unfold WP
  rw [wp_deviceId]
  unfold bodyPre
  rw [pos0_split]
  iintro ⟨⟨#HR, ⟨Hx, Hw, Hs⟩, ⟨⟨%f0, Hc⟩, ⟨%f1, Hm⟩⟩, Hp, Hts, Hcr, ⟨Hpt, Hps, Hpr, Hpl⟩, Htl, HO⟩, Hk⟩
  iapply (wp_load Variants.none (c : Thread nD τ) none Set.univ (m := (Memref.whole cc0_stg0_0 : Memref sig .tc .vmem S256x512 .f32)) (Finset.subset_univ _)) $$ Hx; iintro Hx
  rw [read_x]
  iapply (wp_load Variants.none (c : Thread nD τ) none Set.univ (m := (Memref.whole cc0_stg1_0 : Memref sig .tc .vmem S512x4096 .f32)) (Finset.subset_univ _)) $$ Hw; iintro Hw
  rw [read_w]
  iapply (wp_load Variants.none (c : Thread nD τ) none Set.univ (m := chM) (Finset.subset_univ _)) $$ Hc; iintro Hc
  iapply (wp_store Variants.none (c : Thread nD τ) none Set.univ (m := chM) (r := Rect.unit (s := S256x4096) ![0, 0] S256x4096.size inb_S256x4096_S256x4096_0_0) (Mk := Finset.univ) (Finset.subset_univ _)) $$ Hc; iintro Hc
  rw [write_ch]
  iapply (wp_load Variants.none (c : Thread nD τ) none Set.univ (m := (Memref.whole cc0_scratch1 : Memref sig .tc .vmem S2x256 .f32)) (Finset.subset_univ _)) $$ Hm; iintro Hm
  iapply (wp_store Variants.none (c : Thread nD τ) none Set.univ (m := (Memref.whole cc0_scratch1 : Memref sig .tc .vmem S2x256 .f32)) (r := Rect.unit (s := S2x256) ![0, 0] S1x256.size inb_S2x256_S1x256_0_0) (Mk := Finset.univ) (Finset.subset_univ _)) $$ Hm; iintro Hm
  iapply (wp_load Variants.none (c : Thread nD τ) none Set.univ (m := (Memref.whole cc0_scratch1 : Memref sig .tc .vmem S2x256 .f32)) (Finset.subset_univ _)) $$ Hm; iintro Hm
  iapply (wp_store Variants.none (c : Thread nD τ) none Set.univ (m := (Memref.whole cc0_scratch1 : Memref sig .tc .vmem S2x256 .f32)) (r := Rect.unit (s := S2x256) ![1, 0] S1x256.size inb_S2x256_S1x256_1_0) (Mk := Finset.univ) (Finset.subset_univ _)) $$ Hm; iintro Hm
  iapply (wp_load Variants.none (c : Thread nD τ) none Set.univ (m := (Memref.whole cc0_stg2_0 : Memref sig .tc .vmem S32x2x256 .f32)) (Finset.subset_univ _)) $$ Hs; iintro Hs
  iapply (wp_load Variants.none (c : Thread nD τ) none Set.univ (m := (Memref.whole cc0_stg2_0 : Memref sig .tc .vmem S32x2x256 .f32)) (Finset.subset_univ _)) $$ Hs; iintro Hs
  iapply (wp_load Variants.none (c : Thread nD τ) none Set.univ (m := chM) (Finset.subset_univ _)) $$ Hc; iintro Hc
  iapply (wp_load Variants.none (c : Thread nD τ) none Set.univ (m := chM) (Finset.subset_univ _)) $$ Hc; iintro Hc
  iapply (wp_store Variants.none (c : Thread nD τ) none Set.univ (m := chM) (r := Rect.unit (s := S256x4096) ![0, 0] S256x4096.size inb_S256x4096_S256x4096_0_0) (Mk := Finset.univ) (Finset.subset_univ _)) $$ Hc; iintro Hc
  rw [write_ch, read_ch]
  rw [hch] at hl
  iapply hl $$ [Hc Hp Htl]
  · isplitr; · iexact HR
    isplitl [Hc]; · unfold chunkOf stM stS; iexact Hc
    isplitl [Hp]; · iexact Hp
    iexact Htl
  iintro Hcl
  iapply hw $$ [Hcl HO Hpl]
  · isplitr; · iexact HR
    isplitl [Hcl]; · iexact Hcl
    isplitl [HO]; · iexact HO
    iexact Hpl
  iintro ⟨HO, Hpl, ⟨Hp0, Hp1⟩, Hc⟩
  iapply hr $$ [Hp0 Hp1 Hts Hcr Hpr Hps HO]
  · isplitr; · iexact HR
    isplitl [Hp0]; · iexact Hp0
    isplitl [Hp1]; · iexact Hp1
    isplitl [Hts]; · iexact Hts
    isplitl [Hcr Hpr]
    · unfold toRecv from'
      rw [bigSep_sep']
      isplitl [Hpr] <;> iassumption
    isplitl [Hps]; · iexact Hps
    iexact HO
  iintro ⟨Hres, Hps, Hpr, HO⟩
  imod hcl $$ [Hpt Hps Hpr Hpl] with Hz
  · isplitr; · iexact HR
    isplitl [Hpt]; · iexact Hpt
    isplitl [Hps]; · iexact Hps
    isplitl [Hpr]; · iexact Hpr
    iexact Hpl
  imodintro
  iapply Hk
  unfold bodyPost
  isplitl [Hx Hw Hs]
  · isplitl [Hx]; · iexact Hx
    isplitl [Hw] <;> iassumption
  isplitl [Hc Hm]
  · isplitl [Hc]; · iexists _; iexact Hc
    iexists _; iexact Hm
  isplitl [Hres]; · iexact Hres
  isplitl [Hz] <;> iassumption

end Cert.Proof

end
-- ==== Proof.Deal.lean ====
/-
  What the launch deals each device: the invariants of its cells, its duty tokens and pieces sorted around the ring, and
  its credit.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (ch : Dev nD → (cc0_scratch0 : Ref sig .tc).ty.Contents (Elt F))
variable (gd : Dev nD → (main_v1 : Ref sig .tc).ty.Contents (Elt F))

/-! ## The ring's cells and duty tokens at launch -/

omit [FloatOps F] in
theorem kcell_inj : Function.Injective (kcell : Dev nD × Fin 187 → GSem nD τ sig) := by
  rintro ⟨c, k⟩ ⟨c', k'⟩ h
  have h1 : c = c' := congrArg (fun g : GSem nD τ sig => g.1.1) h
  have h2 : 3 + k.val = 3 + k'.val := congrArg (fun g : GSem nD τ sig => qn g.2) h
  exact Prod.ext h1 (Fin.ext (by show k.val = k'.val; omega))

/-- The cells, -/
def rngCells : Finset (GSem nD τ sig) := Finset.univ.map ⟨kcell, kcell_inj⟩
/-- and a token of each. -/
def rngToks : Finset (GSem nD τ sig × ℕ × Unit) :=
  Finset.univ.map ⟨fun ck : Dev nD × Fin 187 => (kcell ck, 0, ()), fun _ _ h => kcell_inj (congrArg Prod.fst h)⟩

/-- The token of own semaphore `k`. -/
def tok (c : Dev nD) (k : Fin 187) : sProp 𝕄 := dutyTok rngE (kcell (c, k)) 0 ()

/-- What the launch deals device `c`, -/
def dealt (c : Dev nD) : sProp 𝕄 :=
  iprop((bigSep Finset.univ fun k : Fin 187 => roundState rngE (Rd (wholeOf ch) ch) (kcell (c, k)) 0)
    ∗ (bigSep Finset.univ fun k : Fin 187 => iprop(pos0 c k ∗ reached rngE (kcell (c, k)) 0)) ∗ bigSep Finset.univ (tok c))

omit [FloatOps F] in
theorem fund_ring : BI.own (rngE (initOf rngCells rngToks)) ⊢ (|==> bigSep Finset.univ (dealt ch) : sProp 𝕄) := by
  have hX (Φ : GSem nD τ sig → sProp 𝕄) : bigSep rngCells Φ = bigSep Finset.univ fun c : Dev nD => bigSep Finset.univ fun k : Fin 187 => Φ (kcell (c, k)) := by
    unfold rngCells; rw [bigSep_map, bigSep_univ_prod]; rfl
  have hT : bigSep rngToks (fun x => (dutyTok rngE x.1 x.2.1 x.2.2 : sProp 𝕄)) = bigSep Finset.univ fun c : Dev nD => bigSep Finset.univ (tok c) := by
    unfold rngToks; rw [bigSep_map, bigSep_univ_prod]; rfl
  iintro HX
  imod (Rounds.fund rngE (Rd (wholeOf ch) ch) rngCells rngToks) $$ HX with ⟨Hst, Hr, Hat, Htok⟩
  imodintro
  ihave Hst' := (Entails.of_eq (hX fun g => roundState rngE (Rd (wholeOf ch) ch) g 0)) $$ Hst
  ihave Hat' := (Entails.of_eq (hX fun g => atPos rngE g 0 ∅ 0)) $$ Hat
  ihave Hr' := (Entails.of_eq (hX fun g => reached rngE g 0)) $$ Hr
  ihave Htok' := (Entails.of_eq hT) $$ Htok
  unfold dealt pos0; simp only [bigSep_sep']
  isplitl [Hst']; · iexact Hst'
  isplitl [Hat' Hr']
  · isplitl [Hat'] <;> iassumption
  iexact Htok'

omit [FloatOps F] in
/-- The invariants of device `c`'s own cells, allocated. -/
theorem core_alloc (c : Dev nD) (R : sProp 𝕄) :
    iprop(ownSems0 osem c ∗ R ∗ dealt ch c)
      ⊢ |={Set.univ}=> iprop((bigSep Finset.univ fun k => iprop(∃ κ : ℕ, cellInv rngE (Rd (wholeOf ch) ch) κ (kcell (c, k))))
          ∗ (bigSep Finset.univ fun k => iprop(pos0 c k ∗ reached rngE (kcell (c, k)) 0)) ∗ bigSep Finset.univ (tok c) ∗ R) := by
  have ha : iprop((bigSep Finset.univ fun k : Fin 187 => semVal (kcell (c, k)) 0) ∗ bigSep Finset.univ fun k : Fin 187 => roundState rngE (Rd (wholeOf ch) ch) (kcell (c, k)) 0)
      ⊢ (|={Set.univ}=> bigSep Finset.univ fun k => iprop(∃ κ : ℕ, cellInv rngE (Rd (wholeOf ch) ch) κ (kcell (c, k))) : sProp 𝕄) := by
    rw [← bigSep_sep']
    exact (bigSep_mono fun k _ => (Rounds.body_intro rngE (Rd (wholeOf ch) ch) (kcell (c, k))).trans inv_alloc).trans (bigSep_fupd _ _)
  unfold dealt
  iintro ⟨Hos, HR, Hst, Hat, Htok⟩
  imod ha $$ [Hos Hst] with Hinv
  · isplitl [Hos]; · unfold ownSems0; iexact Hos
    iexact Hst
  imodintro
  isplitl [Hinv]; · iexact Hinv
  isplitl [Hat]; · iexact Hat
  isplitl [Htok] <;> iassumption

/-- What each device may consult, the levels apart. -/
def recs0 (K : Dev nD × Fin 187 → ℕ) : sProp 𝕄 :=
  iprop((bigSep Finset.univ fun ck : Dev nD × Fin 187 => cellInv rngE (Rd (wholeOf ch) ch) (K ck) (kcell ck))
    ∗ bigSep Finset.univ fun ck : Dev nD × Fin 187 => reached rngE (kcell ck) 0)

instance recs0_persistent (K : Dev nD × Fin 187 → ℕ) : BI.Persistent (recs0 ch K) := by unfold recs0; infer_instance

/-- What device `c` works from, its own: -/
def linear (c : Dev nD) : sProp 𝕄 :=
  iprop(bigSep Finset.univ (pos0 c) ∗ dutyTok rngE (locC c) 0 () ∗ (piece c (num c 0) (gd c) ∗ piece c (num c 1) (gd c)) ∗ from' 0 (toSend gd c))

/-- after the dealing. -/
def ready (c : Dev nD) : sProp 𝕄 := iprop(∃ K, recs0 ch K ∗ linear gd c)

/-! ## The pieces and tokens dealt around the ring -/

/-- The result array of device `c` at `gd c`. -/
def resAt (c : Dev nD) : sProp 𝕄 := ((c : Thread nD τ).loc main_v1) ↦{fullShare} gd c

/-- What a device keeps, -/
def kept (c : Dev nD) : sProp 𝕄 :=
  iprop(dutyTok rngE (locC c) 0 () ∗ (piece c (num c 0) (gd c) ∗ piece c (num c 1) (gd c)) ∗ upto 62 fun g => dutyTok rngE (sndC c g) 0 ())
/-- and what it hands to the device before it. -/
def given (c : Dev nD) : sProp 𝕄 := upto 62 fun g => iprop(dutyTok rngE (rcvC c g) 0 () ∗ piece c (num c (g + 2)) (gd c))

omit [FloatOps F] in
/-- The first two of 64, and the rest moved down by two. -/
theorem take_two (Φ : ℕ → sProp (MT nD τ sig Unit (Elt F) ℕ UTwo ℕ)) :
    bigSep (Finset.Ico 0 64) Φ = iprop(Φ 0 ∗ Φ 1 ∗ upto 62 fun g => Φ (g + 2)) := by
  have h2 : bigSep (Finset.Ico 2 64) Φ = upto 62 fun g => Φ (g + 2) := by
    have he : Finset.Ico 2 64 = (Finset.Ico 0 62).map (addRightEmbedding 2) := by rw [Finset.map_add_right_Ico]
    rw [he, bigSep_map]; rfl
  rw [← Finset.insert_Ico_add_one_left_eq_Ico (show 0 < 64 by decide), bigSep_insert (by rw [Finset.mem_Ico]; omega),
    ← Finset.insert_Ico_add_one_left_eq_Ico (show 0 + 1 < 64 by decide), bigSep_insert (by rw [Finset.mem_Ico]; omega), ← h2]
  rfl

omit [FloatOps F] in
theorem sort_one (c : Dev nD) : iprop(bigSep Finset.univ (tok c) ∗ resAt gd c) ⊢ iprop(kept gd c ∗ given gd c) := by
  unfold resAt
  rw [pieces_eq c (gd c), take_two, own_split]
  unfold kept given
  rw [show (upto 62 fun g => (iprop(dutyTok rngE (rcvC c g) 0 () ∗ piece c (num c (g + 2)) (gd c)) : sProp 𝕄))
      = iprop((upto 62 fun g => dutyTok rngE (rcvC c g) 0 ()) ∗ upto 62 fun g => piece c (num c (g + 2)) (gd c)) from bigSep_sep' _ _ _]
  unfold tok kcell
  simp only [osem_iS, osem_iR, osem_iL]
  iintro ⟨⟨-, Hs, Hr, Hl⟩, Hp0, Hp1, Hp⟩
  isplitl [Hs Hl Hp0 Hp1]
  · isplitl [Hl]; · iexact Hl
    isplitl [Hp0 Hp1]
    · isplitl [Hp0] <;> iassumption
    iexact Hs
  isplitl [Hr] <;> iassumption

omit [FloatOps F] in
theorem join_one (c : Dev nD) : iprop(bigSep Finset.univ (pos0 c) ∗ kept gd c ∗ given gd (nxt c)) ⊢ linear gd c := by
  unfold kept given linear
  have h : from' 0 (toSend gd c) = iprop((upto 62 fun g => dutyTok rngE (sndC c g) 0 ())
      ∗ upto 62 fun g => (iprop(dutyTok rngE (rcvC (nxt c) g) 0 () ∗ piece (nxt c) (num (nxt c) (g + 2)) (gd (nxt c))) : sProp 𝕄)) := by
    unfold from' toSend
    exact bigSep_sep' _ _ _
  rw [h]
  iintro ⟨Hpos, ⟨Hl, Hp, Hs⟩, Hg⟩
  isplitl [Hpos]; · iexact Hpos
  isplitl [Hl]; · iexact Hl
  isplitl [Hp]; · iexact Hp
  isplitl [Hs] <;> iassumption

omit [FloatOps F] in
theorem around : (bigSep Finset.univ fun c : Dev nD => iprop(bigSep Finset.univ (pos0 c) ∗ bigSep Finset.univ (tok c) ∗ resAt gd c) : sProp 𝕄)
    ⊢ bigSep Finset.univ (linear gd) := by
  have h1 : (bigSep Finset.univ fun c : Dev nD => iprop(bigSep Finset.univ (pos0 c) ∗ bigSep Finset.univ (tok c) ∗ resAt gd c) : sProp 𝕄)
      ⊢ bigSep Finset.univ fun c : Dev nD => iprop(bigSep Finset.univ (pos0 c) ∗ kept gd c ∗ given gd c) :=
    bigSep_mono fun c _ => sep_mono_right (sort_one gd c)
  refine h1.trans ?_
  rw [bigSep_sep', bigSep_sep', bigSep_univ_equiv ring (fun c : Dev nD => given gd c), ← bigSep_sep', ← bigSep_sep']
  exact bigSep_mono fun c _ => join_one gd c

omit [FloatOps F] in
theorem regroup :
    (bigSep Finset.univ fun c : Dev nD => iprop((bigSep Finset.univ fun k => iprop(∃ κ : ℕ, cellInv rngE (Rd (wholeOf ch) ch) κ (kcell (c, k))))
          ∗ (bigSep Finset.univ fun k => iprop(pos0 c k ∗ reached rngE (kcell (c, k)) 0)) ∗ bigSep Finset.univ (tok c) ∗ resAt gd c) : sProp 𝕄)
      ⊢ bigSep Finset.univ (ready ch gd) := by
  rw [bigSep_sep', bigSep_sep', ← bigSep_univ_prod (fun ck : Dev nD × Fin 187 => iprop(∃ κ : ℕ, cellInv rngE (Rd (wholeOf ch) ch) κ (kcell ck))),
    bigSep_congr (s := Finset.univ) (fun (c : Dev nD) _ => bigSep_sep' Finset.univ (pos0 c) (fun k => (reached rngE (kcell (c, k)) 0 : sProp 𝕄))),
    bigSep_sep', ← bigSep_univ_prod (fun ck : Dev nD × Fin 187 => (reached rngE (kcell ck) 0 : sProp 𝕄))]
  iintro ⟨HI, ⟨Hat, #HR⟩, Htok⟩
  ihave HK := (BI.bigSep_exists_pi Finset.univ (fun (ck : Dev nD × Fin 187) (κ : ℕ) => (cellInv rngE (Rd (wholeOf ch) ch) κ (kcell ck) : sProp 𝕄))) $$ HI
  icases HK with ⟨%K, #HI⟩
  have hone (c : Dev nD) : iprop(recs0 ch K ∗ linear gd c) ⊢ ready ch gd c := by
    unfold ready
    iintro H
    iexists K; iexact H
  have hmid : iprop((bigSep Finset.univ fun c : Dev nD => bigSep Finset.univ (pos0 c))
      ∗ bigSep Finset.univ fun c : Dev nD => (iprop(bigSep Finset.univ (tok c) ∗ resAt gd c) : sProp 𝕄)) ⊢ bigSep Finset.univ (linear gd) :=
    (Entails.of_eq (bigSep_sep' _ _ _).symm).trans (around gd)
  iapply (sep_with (R := recs0 ch K) fun c _ => hone c)
  isplitr
  · unfold recs0; isplitl; · iexact HI
    iexact HR
  · iapply hmid
    isplitl [Hat]; · iexact Hat
    iexact Htok

omit [FloatOps F] in
/-- The dealing, all devices at once. -/
theorem deal : (bigSep Finset.univ fun c : Dev nD => iprop(ownSems0 osem c ∗ resAt gd c ∗ dealt ch c) : sProp 𝕄) ⊢ |={Set.univ}=> bigSep Finset.univ (ready ch gd) :=
  ((bigSep_mono fun c _ => core_alloc ch c (resAt gd c)).trans (bigSep_fupd _ _)).trans (BI.fupd_mono (regroup ch gd))

/-! ## The launch credit -/

omit [FloatOps F] in
theorem creds (c : Dev nD) : (launchCred (fun d => owed d 0) c : sProp 𝕄) ⊢ from' 0 fun g => cred (tallyAt (rcvC c g) () N) := by
  have h : (launchCred (fun d => owed d 0) c : sProp 𝕄)
      = bigSep (Finset.Ico 0 62) fun g => launchCred (fun d => tallyAt (rcvC (nxt d) g) () N) c :=
    launchCred_sum (Finset.Ico 0 62) (fun g (d : Dev nD) => (tallyAt (rcvC (nxt d) g) () N : CellTallies nD τ sig Unit)) c
  rw [h]
  exact bigSep_mono fun g _ => launchCred_tallyAt (.dma (rcvQ g)) nxt prv nxt_prv prv_nxt () N c

end Cert.Proof

end
-- ==== Proof.Run.lean ====
/-
  The run of the whole program: the pipeline's data, the body's obligation, and what every device ends with.
-/
module

public import proofs.«01_k».proof.Proof.Deal
public import proofs.«01_k».proof.Proof.Start
public import proofs.«01_k».proof.Proof.Gen.KernelIdeal.Frame

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UTwo ℕ

variable (m : (ℓ : Loc nD τ sig) → Buf (Elt F) ℓ)

/-! ## The run's contents -/

/-- The blocks device `c` stages. -/
def xs (c : Dev nD) : (cc0_stg0_0 : Ref sig .tc).ty.Contents (Elt F) := iblk m c 0 t0_0
def ws (c : Dev nD) : (cc0_stg1_0 : Ref sig .tc).ty.Contents (Elt F) := iblk m c 1 t0_0
def ss (c : Dev nD) : (cc0_stg2_0 : Ref sig .tc).ty.Contents (Elt F) := iblk m c 2 t0_0

/-- The chunk it computes of them, -/
def chs (c : Dev nD) : (cc0_scratch0 : Ref sig .tc).ty.Contents (Elt F) := chunkOf (xs m c) (ws m c) (ss m c)

/-- and its result array as launched. -/
def gds (c : Dev nD) : (main_v1 : Ref sig .tc).ty.Contents (Elt F) := m ((c : Thread nD τ).loc main_v1)

/-! ## The pipeline's data -/

/-- The two scratch buffers, at whatever contents. -/
def scratch (c : Dev nD) : sProp 𝕄 :=
  iprop((∃ f, ((c : Thread nD τ).loc cc0_scratch0) ↦{fullShare} f) ∗ (∃ f, ((c : Thread nD τ).loc cc0_scratch1) ↦{fullShare} f))

/-- What device `c` brings to the body, -/
def start (c : Dev nD) : sProp 𝕄 :=
  iprop(∃ K, recs (wholeOf (chs m)) (chs m) K ∗ linear (gds m) c ∗ from' 0 fun g => cred (tallyAt (rcvC c g) () N))
/-- takes from it. -/
def final (c : Dev nD) : sProp 𝕄 := ((c : Thread nD τ).loc main_v1) ↦{fullShare} wholeOf (chs m)

def before1 (c : Dev nD) : sProp 𝕄 := iprop(start m c ∗ scratch c)
def after1 (c : Dev nD) : sProp 𝕄 := iprop(final m c ∗ ownSems0 osem c ∗ scratch c)

def dats (_ : Fin 1) (c : Dev nD) : Dat τ (Elt F) Unit ℕ UTwo ℕ cfg0 c where
  A w := m ((cfg0.win w).arr.view.loc (c : Thread nD τ))
  after w _ := match w with
    | ⟨0, _⟩ => xs m c
    | ⟨1, _⟩ => ws m c
    | ⟨2, _⟩ => ss m c
  Φ t := match t with
    | ⟨0, _⟩ => before1 m c
    | ⟨_ + 1, _⟩ => after1 m c
  q _ := fullShare
  owed t := match t with
    | ⟨0, _⟩ => owed c 0
    | ⟨_ + 1, _⟩ => 0

theorem share_eq (c : Dev nD) (w : Fin cfg0.W) : (dats m 0 c).share w = fullShare := by unfold Dat.share; split <;> rfl

omit [FloatOps F] in
theorem owns_whole (c : Dev nD) (b : Ref sig .tc) (X : b.ty.Contents (Elt F)) :
    (owns (Ix := Unit) (Name := ℕ) (U := UTwo) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 3) t0_0 d = xs m c := by
  unfold Dat.before; rw [if_pos (fetch0_0 t0_0)]; rfl
theorem before_1 (c : Dev nD) (d) : (dats m 0 c).before (1 : Fin 3) t0_0 d = ws m c := by
  unfold Dat.before; rw [if_pos (fetch0_1 t0_0)]; rfl
theorem before_2 (c : Dev nD) (d) : (dats m 0 c).before (2 : Fin 3) t0_0 d = ss m c := by
  unfold Dat.before; rw [if_pos (fetch0_2 t0_0)]; rfl

/-- What the pipeline hands the body, -/
def given1 (c : Dev nD) : sProp 𝕄 :=
  iprop(before1 m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- and takes back. -/
def taken1 (c : Dev nD) : sProp 𝕄 :=
  iprop(after1 m c ∗ (dats m 0 c).owesAt () t0_0.succ ∗ stg c cc0_stg0_0 (xs m c) ∗ stg c cc0_stg1_0 (ws m c) ∗ stg c cc0_stg2_0 (ss m c))

theorem taken_of_post (c : Dev nD) : bodyPost (chs m) c (xs m c) (ws m c) (ss m c) ⊢ taken1 m c := by
  unfold bodyPost taken1 after1 final scratch Dat.owesAt Pipeline.owesWithin owesE
  rw [show (dats m 0 c).owed t0_0.succ = 0 from rfl]
  iintro ⟨⟨Hx, Hw, Hs⟩, Hsc, Hr, Hz, ⟨%W, HO⟩⟩
  isplitl [Hsc Hr Hz]
  · isplitl [Hr]; · iexact Hr
    isplitl [Hz]; · iexact Hz
    iexact Hsc
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hs

theorem body_given (c : Dev nD) : given1 m c ⊢ WP c (bodyProg (F := F)) fun _ => taken1 m c := by
  have hr (K : Dev nD × Fin 187 → ℕ) := body_run (chs m) (gds m) K c (xs m c) (ws m c) (ss m c) rfl (fun _ => taken1 m c)
  have ht := taken_of_post m c
  unfold given1 before1 start scratch linear Dat.owesAt Pipeline.owesWithin
  rw [show (dats m 0 c).owed t0_0.castSucc = owed c 0 from rfl]
  simp only [before_0, before_1, before_2]
  iintro ⟨⟨⟨%K, #HR, ⟨Hpos, Htl, Hp, Hts⟩, Hcr⟩, Hsc⟩, ⟨%W, %hW, HO⟩, ⟨%d0, %g0, %hg0, Hx⟩, ⟨%d1, %g1, %hg1, Hw⟩, ⟨%d2, %g2, %hg2, Hs⟩⟩
  subst hg0 hg1 hg2
  iapply (hr K)
  unfold bodyPre owesE
  isplitl
  · isplitr; · iexact HR
    isplitl [Hx Hw Hs]
    · isplitl [Hx]; · iexact Hx
      isplitl [Hw] <;> iassumption
    isplitl [Hsc]; · iexact Hsc
    isplitl [Hp]; · iexact Hp
    isplitl [Hts]; · iexact Hts
    isplitl [Hcr]; · iexact Hcr
    isplitl [Hpos]; · iexact Hpos
    isplitl [Htl]; · iexact Htl
    iexists W; iexact HO
  · iintro H
    iapply ht
    iexact H

set_option maxRecDepth 8000 in
/-- The pipeline's obligation for the body. -/
theorem body_obligation (c : Dev nD) : BodyObligation (dats (F := F) m 0 c) (defs₀ (F := F)) Variants.none () Set.univ := fun t => by
  rw [show t = t0_0 from fin_N0 t]
  rw [show (∀ Φ : Fin cfg0.W → sProp 𝕄, bigSep Finset.univ Φ = iprop(Φ (0 : Fin 3) ∗ Φ (1 : Fin 3) ∗ Φ (2 : Fin 3))) from fun Φ => bigSep_W0 Φ,
    show (∀ Φ : Fin cfg0.W → sProp 𝕄, bigSep Finset.univ Φ = iprop(Φ (0 : Fin 3) ∗ Φ (1 : Fin 3) ∗ Φ (2 : Fin 3))) from fun Φ => bigSep_W0 Φ]
  simp only [owns_whole]
  have hp : (defs₀ (F := F)) Proc.tc 0 (t0_0, cfg0.slots t0_0) = bodyProg :=
    (show (defs₀ (F := F)) Proc.tc 0 (t0_0, cfg0.slots t0_0) = cc0_body (F := F) (Memref.whole cc0_stg0_0) (Memref.isWhole_whole _)
      (Memref.whole cc0_stg1_0) (Memref.isWhole_whole _) (Memref.whole cc0_stg2_0) (Memref.isWhole_whole _) oM (Memref.isWhole_whole _) chM
      (Memref.isWhole_whole _) (Memref.whole cc0_scratch1) (Memref.isWhole_whole _) cc0_scratch2 cc0_scratch3 cc0_scratch4 cc0_scratch5
      cc0_scratch6 from rfl).trans body_eq
  rw [hp]
  have h := body_given m c
  unfold given1 taken1 at h
  rw [show (dats m 0 c).Φ t0_0.castSucc = before1 m c from rfl, show (dats m 0 c).Φ t0_0.succ = after1 m c from rfl]
  have h0 : (dats m 0 c).after 0 t0_0 = xs m c := rfl
  have h1 : (dats m 0 c).after 1 t0_0 = ws m c := rfl
  have h2 : (dats m 0 c).after 2 t0_0 = ss m c := rfl
  rw [h0, h1, h2]
  convert h using 3

/-! ## The run -/

def u₀ : UTwo := (initOf (PerCore.cells (fun _ : Dev nD => cfgs) cellOf_inj) (PerCore.launchToks (fun _ : Dev nD => cfgs) cellOf_inj), initOf rngCells rngToks)

set_option maxRecDepth 4000 in
omit [FloatOps F] in
theorem fund (ch : Dev nD → (cc0_scratch0 : Ref sig .tc).ty.Contents (Elt F)) : (ownU u₀ : sProp 𝕄) ⊢ |={Set.univ}=>
    iprop(BI.own (stgE (initOf (PerCore.cells (fun _ : Dev nD => cfgs) cellOf_inj) (PerCore.launchToks (fun _ : Dev nD => cfgs) cellOf_inj))) ∗ bigSep Finset.univ (dealt ch)) := by
  unfold u₀
  iintro Hu
  ihave H := (two_split _ _) $$ Hu
  icases H with ⟨HP, HX⟩
  imod (fund_ring ch) $$ HX with HG
  imodintro
  isplitl [HP] <;> iassumption

set_option maxRecDepth 4000 in
theorem waits (c : Dev nD) : (levAts lvls lv : sProp 𝕄) ⊢ PerCore.cellsWaits (fun _ : Dev nD => cfgs) (dats m) () (0 : Fin 1) c :=
  PerCore.cellsWaits_intro (fun _ : Dev nD => cfgs) (dats m) () (0 : Fin 1) c fun w s t => by
    have hlow : lv ((c : Thread nD τ), SemLoc.dma ((cfg0.win w).sem s)) () ≤ 0 := by
      fin_cases w <;> fin_cases s <;> exact Nat.le_refl 0
    rcases t with ⟨_ | _, ht⟩
    · exact mayWait_low c _ 0 hlow
    · show _ ⊢ MayWait (c : Thread nD τ) _ () 0
      rw [MayWait_zero]; iintro -; iempintro

theorem start_of (c : Dev nD) : iprop(levAts lvls lv ∗ launchCred (fun d => owed d 0) c ∗ ready (chs m) (gds m) c) ⊢ start m c := by
  have hc : (launchCred (fun d => owed d 0) c : sProp 𝕄) ⊢ _ := creds c
  unfold ready recs0 start recs
  iintro ⟨Hlev, Hcr, ⟨%K, ⟨#HI, #Hr⟩, Hl⟩⟩
  ihave Hc := hc $$ Hcr
  iexists K
  isplitl [Hlev]
  · isplitr; · iexact HI
    isplitr; · iexact Hr
    iexact Hlev
  isplitl [Hl] <;> iassumption

omit [FloatOps F] in
theorem whole_read (c : Dev nD) (f : (main_v1 : Ref sig .tc).ty.Contents (Elt F)) (s' : Phys nD τ sig (Elt F)) :
    iprop((((c : Thread nD τ).loc main_v1) ↦{fullShare} f) ∗ SI s' : sProp 𝕄) ⊢ iprop(⌜s'.mem.mem ((c : Thread nD τ).loc main_v1) = f⌝ ∗ SI s') := by
  have h := pointsTo_read_all (Ix := Unit) (Name := ℕ) (U := UTwo) (Lvl := ℕ) ({0} : Finset (Fin 1)) (fun _ => (c : Thread nD τ).loc main_v1) (fun _ => f) s' fullShare
  rw [bigSep_singleton] at h
  iintro H
  ihave Hq := h $$ H
  icases Hq with ⟨%hq, HSI⟩
  isplitr
  · ipureintro; exact hq 0 (Finset.mem_singleton_self _)
  · iexact HSI

variable (ρ : Dev nD → PrngReg)

/-- Every run ends, each device's result array at the chunks side by side, its arguments as they were, every semaphore at
    zero. -/
theorem run_main : θ_run (defs (F := F)) (onTc (τ := τ) (main (F := F))) ⟨m, fun _ => 0, ρ⟩ (fun r =>
    (∀ c : Dev nD, r.2.mem ((c : Thread nD τ).loc main_v1) = wholeOf (chs m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  refine (θ_run defs _ _).mono (fun r h => ⟨fun c => ⟨(h.1 c).2, ?_, ?_, ?_⟩, h.2⟩)
    (run_all m ρ (dats m) (fun d => owed d 0) lvls lv (ready (chs m) (gds m)) (start m) (final m)
      (fun c => (body_obligation m c).loose) (share_eq m) (fun _ => rfl) (fun _ => rfl) (fun _ _ => rfl) lvls_ne (waits m)
      u₀ (dealt (chs m)) (fund (chs m)) (deal (chs m) (gds m)) (start_of m) ?_ ?_
      (fun c s => s.mem ((c : Thread nD τ).loc main_v1) = wholeOf (chs m)) (fun c s' => whole_read c (wholeOf (chs m)) s'))
  · exact ((h.1 c).1 0).trans ((dats m 0 c).arrAt_in 0 rfl _)
  · exact ((h.1 c).1 1).trans ((dats m 0 c).arrAt_in 1 rfl _)
  · exact ((h.1 c).1 2).trans ((dats m 0 c).arrAt_in 2 rfl _)
  · intro c
    rw [show (dats m 0 c).Φ 0 = before1 m c from rfl, scopedRest0_eq]
    unfold before1 scratch
    iintro H; iexact H
  · intro c
    rw [show (dats m 0 c).Φ (Fin.last cfg0.N) = after1 m c from rfl, scopedRest0_eq]
    unfold after1 scratch
    iintro H; iexact H

end Cert.Proof

end
-- ==== Proof.Ref.lean ====
/-
  The run of the reference: a straight line of host operations on one device, so every buffer ends at the operations'
  results folded over the launch contents; the result's buffer is `refOut` of the arguments.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What it computes -/

/-- The statistics' maxima and sums, a row per device. -/
def maxes (s : FVec F S32x2x256 .f32) : FVec F S32x256 .f32 :=
  shapeCast S32x256 (extractStridedSlice S32x1x256 ![0, 0, 0] s slices_S32x2x256_S32x1x256_0_0_0) shapeCasts_S32x1x256_S32x256
def sums (s : FVec F S32x2x256 .f32) : FVec F S32x256 .f32 :=
  shapeCast S32x256 (extractStridedSlice S32x1x256 ![0, 1, 0] s slices_S32x2x256_S32x1x256_0_1_0) shapeCasts_S32x1x256_S32x256

/-- The maximum of the maxima, -/
def refMax (s : FVec F S32x2x256 .f32) : FVec F S256 .f32 :=
  Host.reduce FloatOps.maximumf (maxes s) (constant S_ .f32 0xFF800000#32) reducesTo_S32x256_S256_d0 h_S_

/-- each device's sum rescaled to it, -/
def scaled (s : FVec F S32x2x256 .f32) : FVec F S32x256 .f32 :=
  mulf (sums s) (Host.exp (subf (maxes s)
    (broadcastInDim S32x256 ![0, 1] bcast_S1x256_S32x256_0_1 (broadcastInDim S1x256 ![1] bcast_S256_S1x256_1 (refMax s)))))

/-- the sum of those, -/
def refSum (s : FVec F S32x2x256 .f32) : FVec F S256 .f32 :=
  Host.reduceAdd (scaled s) (constant S_ .f32 0x00000000#32) reducesTo_S32x256_S256_d0 h_S_

/-- a column laid along every row, -/
def column (v : FVec F S256 .f32) : FVec F S256x131072 .f32 :=
  broadcastInDim S256x131072 ![0, 1] bcast_S256x1_S256x131072_0_1 (broadcastInDim S256x1 ![0] bcast_S256_S256x1_0 v)

/-- and the result. -/
def refOut (x : FVec F S256x512 .f32) (w : FVec F S512x131072 .f32) (s : FVec F S32x2x256 .f32) : FVec F S256x131072 .f32 :=
  Host.divf (Host.exp (subf (Host.dotGeneral dot_S256x512_S512x131072_S256x131072_1_0_0_1_n_n none x w) (column (refMax s)))) (column (refSum s))

/-! ## The run -/

/-- @main's operations, in order. -/
abbrev ops : List (HloOp τ sig (Elt F)) :=
  [ binary main_arg0 main_arg1 main_v0 (fun l r => Host.dotGeneral dot_S256x512_S512x131072_S256x131072_1_0_0_1_n_n none l r),
    unary main_arg2 main_v1 (extractStridedSlice S32x1x256 ![0, 0, 0] · slices_S32x2x256_S32x1x256_0_0_0),
    StableHlo.reshape main_v1 main_v2 (rfl : (.f32 : EltTy) = .f32) shapeCasts_S32x1x256_S32x256,
    nullary main_cst (constant S_ .f32 0xFF800000#32),
    binary main_v2 main_cst main_v3 (fun x v => Host.reduce FloatOps.maximumf x v reducesTo_S32x256_S256_d0 h_S_),
    unary main_arg2 main_v4 (extractStridedSlice S32x1x256 ![0, 1, 0] · slices_S32x2x256_S32x1x256_0_1_0),
    StableHlo.reshape main_v4 main_v5 (rfl : (.f32 : EltTy) = .f32) shapeCasts_S32x1x256_S32x256,
    unary main_arg2 main_v6 (extractStridedSlice S32x1x256 ![0, 0, 0] · slices_S32x2x256_S32x1x256_0_0_0),
    StableHlo.reshape main_v6 main_v7 (rfl : (.f32 : EltTy) = .f32) shapeCasts_S32x1x256_S32x256,
    unary main_v3 main_v8 (broadcastInDim S1x256 ![1] bcast_S256_S1x256_1),
    unary main_v8 main_v9 (broadcastInDim S32x256 ![0, 1] bcast_S1x256_S32x256_0_1),
    binary main_v7 main_v9 main_v10 subf,
    unary main_v10 main_v11 Host.exp,
    binary main_v5 main_v11 main_v12 mulf,
    nullary main_cst_0 (constant S_ .f32 0x00000000#32),
    binary main_v12 main_cst_0 main_v13 (fun x v => Host.reduceAdd x v reducesTo_S32x256_S256_d0 h_S_),
    unary main_v3 main_v14 (broadcastInDim S256x1 ![0] bcast_S256_S256x1_0),
    unary main_v14 main_v15 (broadcastInDim S256x131072 ![0, 1] bcast_S256x1_S256x131072_0_1),
    binary main_v0 main_v15 main_v16 subf,
    unary main_v16 main_v17 Host.exp,
    unary main_v13 main_v18 (broadcastInDim S256x1 ![0] bcast_S256_S256x1_0),
    unary main_v18 main_v19 (broadcastInDim S256x131072 ![0, 1] bcast_S256x1_S256x131072_0_1),
    binary main_v17 main_v19 main_v20 Host.divf ]

/-- @main is that straight line. -/
theorem main_eq (c : Dev nD) : main (F := F) c = seq ops := rfl

/-- The fold of the operations, at the result's buffer: -/
theorem out_eq (V : Valuation τ sig (Elt F)) :
    after ops V (main_v20 : DevRef τ sig) = refOut (V (main_arg0 : DevRef τ sig)) (V (main_arg1 : DevRef τ sig)) (V (main_arg2 : DevRef τ sig)) := by
  after_results
  rfl

/-- and at the arguments', which no operation writes. -/
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., reshape_bufs_sub .., nullary_bufs_sub .., binary_bufs_sub .., unary_bufs_sub .., reshape_bufs_sub ..,
    unary_bufs_sub .., reshape_bufs_sub .., unary_bufs_sub .., unary_bufs_sub .., binary_bufs_sub .., unary_bufs_sub .., binary_bufs_sub ..,
    nullary_bufs_sub .., binary_bufs_sub .., unary_bufs_sub .., unary_bufs_sub .., binary_bufs_sub .., unary_bufs_sub .., unary_bufs_sub ..,
    unary_bufs_sub .., binary_bufs_sub ..⟩

/-- The run: the result's buffer at `refOut` of the arguments, those as launched, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v20)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => ⟨(h c main_v20).trans (out_eq _),
      (h c main_arg0).trans (arg0_eq _), (h c main_arg1).trans (arg1_eq _), (h c main_arg2).trans (arg2_eq _)⟩,
      sem_eq_zero_of_no_sems (by decide) r.2⟩)
    (run_seq scopedRefs_eq scopedSems_eq defs main (fun _ => ops) main_eq (fun _ => ops_sub) m ρ)

end Cert.Proof.Ref

end
-- ==== Proof.Value.lean ====
/-
  The values: at the ideal instance the chunk a device computes, read at an entry, and the reference's result read at the
  same entry of the whole array; the two are equal when the rows of the product are real.
-/
module

public import proofs.«01_k».proof.Proof.Body
public import proofs.«01_k».proof.Proof.Ref
public import Idealize.ShloMosaic.Lib.IdealHost
public import Idealize.ShloMosaic.Lib.KernelVsHost
public import Idealize.ShloMosaic.Lib.MatmulPlain
public import Idealize.ShloMosaic.Lib.Layout

@[expose] public section

noncomputable section

namespace Cert.Proof.Value

open Idealize.ShloMosaic Idealize.ShloMosaic.ValueIdx
open Cert.KernelIdeal (S256x512 S512x4096 S256x4096 S256 S256x1 S32x256 S1x256 S32x1x256 S32x2x256)
open Cert.KernelIdeal.Gen
open Cert.Proof.Ref (refOut refMax refSum column maxes sums scaled)
open scoped BigOperators

/-! ## Extended reals -/

/-- A quotient by any divisor takes a positive real factor out. -/
theorem mul_div {p : ℝ} (hp : 0 < p) (q s : EReal) : (p : EReal) * Ideal.div q s = Ideal.div ((p : EReal) * q) s := by
  unfold Ideal.div
  have hp' : (0 : EReal) < (p : EReal) := by exact_mod_cast hp
  by_cases hs : s = 0
  · rw [if_pos hs, if_pos hs]
    by_cases hq : 0 < q
    · rw [if_pos hq, if_pos (EReal.mul_pos hp' hq), EReal.coe_mul_top_of_pos hp]
    · have hn : ¬ 0 < (p : EReal) * q := by
        intro h
        apply hq
        by_contra h'
        have := mul_nonpos_of_nonneg_of_nonpos hp'.le (not_lt.mp h')
        exact absurd h (not_lt.mpr this)
      rw [if_neg hq, if_neg hn, EReal.coe_mul_bot_of_pos hp]
  · rw [if_neg hs, if_neg hs, mul_assoc]

/-- The exponential of a difference, split at a real between. -/
theorem exp_split (l m : ℝ) (g : EReal) : Ideal.exp ((l : EReal) - g) = ((Real.exp (l - m) : ℝ) : EReal) * Ideal.exp ((m : EReal) - g) := by
  induction g with
  | bot =>
    rw [EReal.coe_sub_bot, EReal.coe_sub_bot, Ideal.exp_top, EReal.coe_mul_top_of_pos (Real.exp_pos _)]
  | top =>
    rw [EReal.sub_top, EReal.sub_top, Ideal.exp_bot, mul_zero]
  | coe g =>
    rw [← EReal.coe_sub, ← EReal.coe_sub, Ideal.exp_coe, Ideal.exp_coe, ← EReal.coe_mul, ← Real.exp_add]
    congr 2; ring

/-- One entry: the local exponential rescaled is the global one normalized. -/
theorem entry (l m : ℝ) (g s : EReal) :
    Ideal.exp ((l : EReal) - (m : EReal)) * Ideal.div (Ideal.exp ((m : EReal) - g)) s = Ideal.div (Ideal.exp ((l : EReal) - g)) s := by
  rw [← EReal.coe_sub, Ideal.exp_coe, mul_div (Real.exp_pos _), ← exp_split]

/-- A sum of reals is real. -/
theorem sum_real {ι : Type} (t : Finset ι) (f : ι → EReal) (h : ∀ i ∈ t, ∃ r : ℝ, f i = r) : ∃ r : ℝ, ∑ i ∈ t, f i = r :=
  Finset.sum_induction f (fun z => ∃ r : ℝ, z = r) (by rintro _ _ ⟨a, rfl⟩ ⟨b, rfl⟩; exact ⟨a + b, by push_cast; rfl⟩) ⟨0, rfl⟩ h

/-- A maximum of reals from the least value is real. -/
theorem max_real {n : ℕ} (hn : 0 < n) (f : Fin n → EReal) (h : ∀ i, ∃ r : ℝ, f i = r) : ∃ r : ℝ, (Finset.univ : Finset (Fin n)).fold max ⊥ f = r := by
  have hlt : (Finset.univ : Finset (Fin n)).fold max ⊥ f < ⊤ := (Finset.fold_max_lt _).mpr
    ⟨bot_lt_top, fun i _ => by obtain ⟨r, hr⟩ := h i; rw [hr]; exact EReal.coe_lt_top r⟩
  have hgt : ⊥ < (Finset.univ : Finset (Fin n)).fold max ⊥ f := (Finset.lt_fold_max _).mpr
    (Or.inr ⟨⟨0, hn⟩, Finset.mem_univ _, by obtain ⟨r, hr⟩ := h ⟨0, hn⟩; rw [hr]; exact EReal.bot_lt_coe r⟩)
  exact ⟨_, (EReal.coe_toReal hlt.ne hgt.ne').symm⟩

theorem negInf : Ideal.ofBits .f32 0xFF800000#32 = ⊥ := by simp [Ideal.ofBits, Ideal.ieee]
theorem posInf : Ideal.ofBits .f32 0x7F800000#32 = ⊤ := by simp [Ideal.ofBits, Ideal.ieee]

/-- A value of absolute value below infinity is real. -/
theorem real_of_lt (a : Ideal .f32) (h : FloatOps.cmpf .olt (FloatOps.hostAbsf a) (FloatOps.ofBits (F := Ideal) .f32 0x7F800000#32) = 1#1) :
    ∃ r : ℝ, (a : EReal) = r := by
  have h' : Ideal.cmp .olt (max (a : EReal) (-(a : EReal))) (Ideal.ofBits .f32 0x7F800000#32) = 1#1 := h
  rw [posInf] at h'
  have hlt : max (a : EReal) (-(a : EReal)) < ⊤ := by
    by_contra hn
    unfold Ideal.cmp at h'
    simp [hn] at h'
  rw [max_lt_iff] at hlt
  exact ⟨_, (EReal.coe_toReal hlt.1.ne (fun e => by rw [e] at hlt; exact absurd hlt.2 (by simp))).symm⟩

/-- A maximum over one axis of real entries is real. -/
theorem reduce_real {s t : Shape} {a : Fin s.rank} (src : FVec Ideal s .f32) (h : s.Reduces [a] t) (ha : 0 < s.size a) (j : t.Idx)
    (hr : ∀ i, ∃ r : ℝ, (src i : EReal) = r) :
    ∃ r : ℝ, (multiReduction .maximumf [a] t src 0xFF800000#32 h (.inl rfl) rfl j : EReal) = r := by
  obtain ⟨r, e⟩ := max_real ha (fun i => (src (h.lift j i) : EReal)) fun i => hr _
  refine ⟨r, (Ideal.multiReduction_maximumf_single src 0xFF800000#32 h (.inl rfl) rfl j).trans ?_⟩
  rw [Ideal.ofBits_def, negInf]
  exact e

/-! ## The kernel's chunk at an entry -/

section Kernel
variable (x : FVec Ideal S256x512 .f32) (w : FVec Ideal S512x4096 .f32)

/-- The product's entry. -/
theorem pay1_apply (r : Fin 256) (t : Fin 4096) : k0_pay1 x w (ix2 r t) = ∑ k : Fin 512, x (ix2 r k) * w (ix2 k t) := by
  have h := Ideal.matmul_plain_apply (M := 256) (K := 512) (N := 4096) none x w (constant S256x4096 .f32 0x00000000#32) r t
  have hz : (constant (F := Ideal) S256x4096 .f32 0x00000000#32 (ix2 r t) : EReal) = 0 := by
    rw [constant_apply, Ideal.ofBits_zero_f32]
  rw [hz, zero_add] at h
  unfold k0_pay1
  simp only [shapeCast_self]
  exact h

/-- A column's vector laid along the rows of a chunk. -/
theorem col_apply (v : FVec Ideal S256 .f32) (r : Fin 256) (t : Fin 4096) :
    broadcastTo S256x4096 (shapeCast S256x1 v shapeCasts_S256_S256x1) broadcasts_S256x1_S256x4096 (ix2 r t) = v (ix1 r) := by
  refine (broadcastTo_apply _ _ (ix2 r t) (ix2 r (0 : Fin 1)) fun a => ?_).trans (shapeCast_apply v _ _ (ix1 r) ?_)
  · match a with
    | ⟨0, _⟩ => rfl
    | ⟨1, _⟩ => rfl
  · rw [Shape.rowMajor_val_two, Shape.rowMajor_val_one]
    show r.val = r.val * 1 + 0
    omega

theorem pay3_apply (r : Fin 256) (t : Fin 4096) : k0_pay3 (F := Ideal) x w (ix2 r t) = Ideal.exp (k0_pay1 (F := Ideal) x w (ix2 r t) - k0_pay2 (F := Ideal) x w (ix1 r)) := by
  show Ideal.exp (k0_pay1 (F := Ideal) x w (ix2 r t) - (broadcastTo S256x4096 (shapeCast S256x1 (k0_pay2 (F := Ideal) x w) shapeCasts_S256_S256x1) broadcasts_S256x1_S256x4096 : FVec Ideal S256x4096 .f32) (ix2 r t)) = _
  rw [col_apply]

/-- The scaled sum of the exponentials' sums, and the chunk at an entry. -/
theorem pay11_apply (v10 : FVec Ideal S256 .f32) (v26 v28 : FVec Ideal S32x256 .f32) (v29 : FVec Ideal S256 .f32) (v31 : FVec Ideal S32x256 .f32)
    (v39 : FVec Ideal S256x4096 .f32) (r : Fin 256) (t : Fin 4096) :
    k0_pay11 v10 v26 v28 v29 v31 v39 (ix2 r t) = v39 (ix2 r t) * Ideal.div (Ideal.exp (v10 (ix1 r) - v29 (ix1 r)))
      (multiReduction .add [0] S256 (mulf v28 (exp (subf v26 v31))) 0x00000000#32 reduces_S32x256_S256 (.inl rfl) rfl (ix1 r)) := by
  unfold k0_pay11
  simp only [shapeCast_self]
  show v39 (ix2 r t) * broadcastTo S256x4096 (shapeCast S256x1 _ shapeCasts_S256_S256x1) broadcasts_S256x1_S256x4096 (ix2 r t) = _
  rw [col_apply]
  rfl

/-- The product's entries are real when the arguments' are, -/
theorem pay1_real (hx : ∀ i, ∃ a : ℝ, (x i : EReal) = a) (hw : ∀ i, ∃ a : ℝ, (w i : EReal) = a) (r : Fin 256) (t : Fin 4096) :
    ∃ a : ℝ, (k0_pay1 (F := Ideal) x w (ix2 r t) : EReal) = a := by
  rw [pay1_apply]
  refine sum_real _ _ fun k _ => ?_
  obtain ⟨a, ha⟩ := hx (ix2 r k)
  obtain ⟨b, hb⟩ := hw (ix2 k t)
  exact ⟨a * b, by rw [ha, hb]; push_cast; rfl⟩

theorem pay1_real' (hx : ∀ i, ∃ a : ℝ, (x i : EReal) = a) (hw : ∀ i, ∃ a : ℝ, (w i : EReal) = a) (j : S256x4096.Idx) :
    ∃ a : ℝ, (k0_pay1 (F := Ideal) x w j : EReal) = a := by
  rw [eq_ix2 j]; exact pay1_real x w hx hw _ _

/-- and so are the rows' maxima. -/
theorem pay2_real (hx : ∀ i, ∃ a : ℝ, (x i : EReal) = a) (hw : ∀ i, ∃ a : ℝ, (w i : EReal) = a) (r : Fin 256) :
    ∃ a : ℝ, (k0_pay2 (F := Ideal) x w (ix1 r) : EReal) = a := by
  unfold k0_pay2
  exact reduce_real _ reduces_S256x4096_S256 (Nat.succ_pos 4095) (ix1 r) (pay1_real' x w hx hw)

end Kernel

/-! ## The reference at an entry -/

section Reference
variable (s : FVec Ideal S32x2x256 .f32)

theorem column_apply (v : FVec Ideal S256 .f32) (r : Fin 256) (t : Fin 131072) : column v (ix2 r t) = v (ix1 r) := by
  unfold column
  refine (broadcastInDim_apply _ _ _ (ix2 r t) (ix2 r (0 : Fin 1)) fun a => ?_).trans (broadcastInDim_apply _ _ v _ (ix1 r) fun a => ?_)
  · match a with
    | ⟨0, _⟩ => rfl
    | ⟨1, _⟩ => rfl
  · match a with
    | ⟨0, _⟩ => rfl

theorem refOut_apply (x : FVec Ideal S256x512 .f32) (w : FVec Ideal Cert.ReferenceIdeal.S512x131072 .f32) (r : Fin 256) (t : Fin 131072) :
    refOut x w s (ix2 r t) = Ideal.div (Ideal.exp ((∑ k : Fin 512, x (ix2 r k) * w (ix2 k t)) - refMax s (ix1 r))) (refSum s (ix1 r)) := by
  have h := Ideal.matmul_plain_apply (M := 256) (K := 512) (N := 131072) none x w (fun _ => 0) r t
  rw [zero_add] at h
  show Ideal.div (Ideal.exp (Ideal.matmul (DotDims.plain 256 512 131072) x w (fun _ => 0) (ix2 r t) - column (refMax s) (ix2 r t))) (column (refSum s) (ix2 r t)) = _
  rw [column_apply, column_apply]
  rw [show Ideal.matmul (DotDims.plain 256 512 131072) x w (fun _ => 0) (ix2 r t) = ∑ k : Fin 512, x (ix2 r k) * w (ix2 k t) from h]

end Reference

/-! ## The statistics, both ways -/

section Stats
variable (s : FVec Ideal S32x2x256 .f32)

theorem maxes_eq : k0_pay7 (stM s) = maxes s := by
  unfold k0_pay7 maxes
  refine congrArg (fun v => shapeCast S32x256 v _) (funext fun j => ?_)
  refine (extractStridedSlice_apply (t := S32x1x256) ![0, 0, 0] s Cert.ReferenceIdeal.Gen.slices_S32x2x256_S32x1x256_0_0_0 j
    ((Rect.unit (s := S32x2x256) ![0, 0, 0] S32x1x256.size inb_S32x2x256_S32x1x256_0_0_0).toLoadRect.idx j) fun a => ?_).symm
  match a with
    | ⟨0, _⟩ => show 0 + 1 * (j 0).val = 0 + (j 0).val; omega
    | ⟨1, _⟩ => show 0 + 1 * (j 1).val = 0 + (j 1).val; omega
    | ⟨2, _⟩ => show 0 + 1 * (j 2).val = 0 + (j 2).val; omega
theorem sums_eq : k0_pay8 (stS s) = sums s := by
  unfold k0_pay8 sums
  refine congrArg (fun v => shapeCast S32x256 v _) (funext fun j => ?_)
  refine (extractStridedSlice_apply (t := S32x1x256) ![0, 1, 0] s Cert.ReferenceIdeal.Gen.slices_S32x2x256_S32x1x256_0_1_0 j
    ((Rect.unit (s := S32x2x256) ![0, 1, 0] S32x1x256.size inb_S32x2x256_S32x1x256_0_1_0).toLoadRect.idx j) fun a => ?_).symm
  match a with
    | ⟨0, _⟩ => show 0 + 1 * (j 0).val = 0 + (j 0).val; omega
    | ⟨1, _⟩ => show 1 + 1 * (j 1).val = 1 + (j 1).val; omega
    | ⟨2, _⟩ => show 0 + 1 * (j 2).val = 0 + (j 2).val; omega

theorem max_eq : k0_pay9 (stM s) = refMax s := by
  unfold k0_pay9 refMax
  rw [maxes_eq]
  exact (hostReduce_maximumf_eq_multiReduction _ _ _ _ _ _ _).symm

theorem row_eq (v : FVec Ideal S256 .f32) : broadcastTo S32x256 (shapeCast S1x256 v shapeCasts_S256_S1x256) broadcasts_S1x256_S32x256
    = broadcastInDim S32x256 ![0, 1] Cert.ReferenceIdeal.Gen.bcast_S1x256_S32x256_0_1 (broadcastInDim S1x256 ![1] Cert.ReferenceIdeal.Gen.bcast_S256_S1x256_1 v) := by
  funext j
  obtain ⟨d, r, rfl⟩ : ∃ (d : Fin 32) (r : Fin 256), j = ix2 d r := ⟨j 0, j 1, eq_ix2 j⟩
  refine ((broadcastTo_apply _ _ (ix2 d r) (ix2 (0 : Fin 1) r) fun a => ?_).trans (shapeCast_apply v _ _ (ix1 r) ?_)).trans
    ((broadcastInDim_apply _ _ _ (ix2 d r) (ix2 (0 : Fin 1) r) fun a => ?_).trans (broadcastInDim_apply _ _ v _ (ix1 r) fun a => ?_)).symm
  · match a with
    | ⟨0, _⟩ => rfl
    | ⟨1, _⟩ => rfl
  · rw [Shape.rowMajor_val_two, Shape.rowMajor_val_one]
    show r.val = 0 * 256 + r.val
    omega
  · match a with
    | ⟨0, _⟩ => rfl
    | ⟨1, _⟩ => rfl
  · match a with
    | ⟨0, _⟩ => rfl

theorem sum_eq : multiReduction .add [0] S256 (mulf (k0_pay8 (stS s)) (exp (subf (k0_pay7 (stM s)) (k0_pay10 (stM s))))) 0x00000000#32
    reduces_S32x256_S256 (.inl rfl) rfl = refSum s := by
  have h10 : k0_pay10 (stM s) = broadcastInDim S32x256 ![0, 1] Cert.ReferenceIdeal.Gen.bcast_S1x256_S32x256_0_1
      (broadcastInDim S1x256 ![1] Cert.ReferenceIdeal.Gen.bcast_S256_S1x256_1 (refMax s)) := by
    unfold k0_pay10; rw [max_eq]; exact row_eq _
  rw [h10, maxes_eq, sums_eq]
  exact multiReduction_add_eq_hostReduceAdd _ _ _ _ _ _ _ _ (by rw [constant_apply, Ideal.ofBits_zero_f32])

/-- The chunk's entry is the reference's, of the same row and the columns' part of the product. -/
theorem chunk_entry (x : FVec Ideal S256x512 .f32) (w : FVec Ideal S512x4096 .f32) (hx : ∀ i, ∃ a : ℝ, (x i : EReal) = a)
    (hw : ∀ i, ∃ a : ℝ, (w i : EReal) = a) (r : Fin 256) (t : Fin 4096) :
    (chunkOf (F := Ideal) x w s (ix2 r t) : EReal) = Ideal.div (Ideal.exp ((∑ k : Fin 512, x (ix2 r k) * w (ix2 k t)) - refMax s (ix1 r))) (refSum s (ix1 r)) := by
  obtain ⟨l, hl⟩ := pay1_real x w hx hw r t
  obtain ⟨m, hm⟩ := pay2_real x w hx hw r
  unfold chunkOf
  rw [pay11_apply, sum_eq, max_eq]
  unfold k0_pay4
  rw [shapeCast_self, pay3_apply, ← pay1_apply, hl, hm]
  exact entry l m _ _

end Stats

end Cert.Proof.Value

end
-- ==== Proof.Equal.lean ====
/-
  The claim of equal results: what the precondition gives, what each device holds of the arrays, and the two programs' results
  as one array.
-/
module

public import proofs.«01_k».proof.Defs
public import proofs.«01_k».proof.Proof.Run
public import proofs.«01_k».proof.Proof.Ref
public import proofs.«01_k».proof.Proof.Value
public import Idealize.ShloMosaic.Lib.ReduceAll

@[expose] public section

noncomputable section

namespace Cert.Proof.Equal

open Idealize.ShloMosaic Idealize.ShloMosaic.ValueIdx Idealize.SL.Sem
open Cert.KernelIdeal (nD τ sig S256x512 S512x4096 S256x4096 S256 S32x2x256 S256x131072 main_arg0 main_arg1 main_arg2 main_v1)
open Cert.Proof.Ref (refOut refMax refSum)
open scoped BigOperators

/-! ## The precondition -/

instance preKernel : Cert.Pre_finite_KernelIdeal.Facts where
  bcast_S_S256x512 := by decide
  reducesTo_S256x512_S_d0_1 := by decide
  h_S_ := by decide
  bcast_S_S512x4096 := by decide
  reducesTo_S512x4096_S_d0_1 := by decide

instance preReference : Cert.Pre_finite_ReferenceIdeal.Facts where
  bcast_S_S256x512 := by decide
  reducesTo_S256x512_S_d0_1 := by decide
  h_S_ := by decide
  bcast_S_S512x131072 := by decide
  reducesTo_S512x131072_S_d0_1 := by decide

instance oneIndex : Subsingleton Cert.Pre_finite_KernelIdeal.S_.Idx := ⟨fun a b => funext fun k => k.elim0⟩

/-- Under the precondition both arguments are real, entry by entry. -/
theorem reals (x : FVec Ideal S256x512 .f32) (w : FVec Ideal S512x4096 .f32) (s : FVec Ideal S32x2x256 .f32)
    (h : Cert.Pre_finite_KernelIdeal.fn (F := Ideal) x w s = fun _ => 1#1) :
    (∀ i, ∃ a : ℝ, (x i : EReal) = a) ∧ ∀ i, ∃ a : ℝ, (w i : EReal) = a := by
  have h0 := congrFun h (fun k => k.elim0)
  unfold Cert.Pre_finite_KernelIdeal.fn at h0
  obtain ⟨hx, hw⟩ := IntOp.andi_eq_one.mp h0
  exact ⟨fun i => Value.real_of_lt _ (Host.reduce_andi_all _ _ _ _ _ hx i), fun i => Value.real_of_lt _ (Host.reduce_andi_all _ _ _ _ _ hw i)⟩

/-! ## What a device is given -/

section Given
variable (m : (ℓ : Loc nD τ sig) → Buf (Elt Ideal) ℓ) (c : Dev nD)

theorem xs_eq : xs m c = m ((c.tc : Thread nD τ).loc main_arg0) := by
  funext i
  refine congrArg (m ((c.tc : Thread nD τ).loc main_arg0)) (funext fun a => Fin.ext ?_)
  match a with
  | ⟨0, _⟩ => show 0 + 1 * (i 0).val = (i 0).val; omega
  | ⟨1, _⟩ => show 0 + 1 * (i 1).val = (i 1).val; omega
theorem ws_eq : ws m c = m ((c.tc : Thread nD τ).loc main_arg1) := by
  funext i
  refine congrArg (m ((c.tc : Thread nD τ).loc main_arg1)) (funext fun a => Fin.ext ?_)
  match a with
  | ⟨0, _⟩ => show 0 + 1 * (i 0).val = (i 0).val; omega
  | ⟨1, _⟩ => show 0 * 4096 + 1 * (i 1).val = (i 1).val; omega
theorem ss_eq : ss m c = m ((c.tc : Thread nD τ).loc main_arg2) := by
  funext i
  refine congrArg (m ((c.tc : Thread nD τ).loc main_arg2)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
end Given

/-! ## The two results -/

/-- The chunks of the devices side by side are the reference's result. -/
theorem whole_eq (m : (ℓ : Loc nD τ sig) → Buf (Elt Ideal) ℓ) (x : FVec Ideal S256x512 .f32)
    (w : FVec Ideal Cert.ReferenceIdeal.S512x131072 .f32) (s : FVec Ideal S32x2x256 .f32)
    (hpre : Cert.Pre_KernelIdeal_finite_KernelIdeal m)
    (hx : ∀ c : Dev nD, m ((c.tc : Thread nD τ).loc main_arg0) = x)
    (hw : ∀ c : Dev nD, m ((c.tc : Thread nD τ).loc main_arg1) = Layout.block ⟨2, ![512, 4096]⟩ ⟨2, ![512, 131072]⟩ 1 32 c w)
    (hs : ∀ c : Dev nD, m ((c.tc : Thread nD τ).loc main_arg2) = s) :
    wholeOf (chs m) = refOut x w s := by
  funext i
  obtain ⟨r, t, rfl⟩ : ∃ (r : Fin 256) (t : Fin 131072), i = ix2 r t := ⟨i 0, i 1, eq_ix2 i⟩
  have hc : t.val / 4096 < 32 := by have := t.isLt; omega
  have ht : t.val % 4096 < 4096 := Nat.mod_lt _ (by decide)
  have hin : inChunk (ix2 r t) = ix2 r (⟨t.val % 4096, ht⟩ : Fin 4096) := by
    funext a
    match a with
    | ⟨0, _⟩ => rfl
    | ⟨1, _⟩ => rfl
  obtain ⟨rx, rw'⟩ := reals _ _ _ (hpre ⟨t.val / 4096, hc⟩)
  have hch : wholeOf (chs m) (ix2 r t) = chs m ⟨t.val / 4096, hc⟩ (inChunk (ix2 r t)) := rfl
  rw [hch, hin]
  unfold chs
  rw [xs_eq, ws_eq, ss_eq]
  rw [Value.refOut_apply]
  refine (Value.chunk_entry _ _ _ rx rw' r ⟨t.val % 4096, ht⟩).trans ?_
  rw [hx, hw, hs]
  have hsum : (∑ k : Fin 512, x (ix2 r k) * (Layout.block ⟨2, ![512, 4096]⟩ ⟨2, ![512, 131072]⟩ 1 32 ⟨t.val / 4096, hc⟩ w) (ix2 k (⟨t.val % 4096, ht⟩ : Fin 4096)))
      = ∑ k : Fin 512, x (ix2 r k) * w (ix2 k t) := by
    refine Finset.sum_congr rfl fun k _ => ?_
    rw [Layout.block_apply]
    refine congrArg (fun j => x (ix2 r k) * w j) ?_
    funext a
    match a with
    | ⟨0, _⟩ => rfl
    | ⟨1, _⟩ => exact Fin.ext (show t.val / 4096 * 4096 + t.val % 4096 = t.val by omega)
  rw [hsum]

/-- From matching arguments both programs run and end with one result. -/
theorem algebraic : Cert.algebraic_KernelIdeal_ReferenceIdeal_pre_finite_KernelIdeal := by
  intro m g m' g' hpre hargs
  have e := whole_eq m _ _ _ hpre (fun c => (hargs c).1) (fun c => (hargs c).2.1) (fun c => (hargs c).2.2)
  refine ⟨wholeOf (chs m), ?_, ?_⟩
  · exact (θ_run Cert.KernelIdeal.defs _ _).mono (fun _ h => h.1) (run_main (F := Ideal) m g)
  · refine (θ_run Cert.ReferenceIdeal.defs _ _).mono (fun _ h => ?_) (Ref.run_main (F := Ideal) m' g')
    obtain ⟨h0, h1, h2, h3⟩ := h.1 0
    exact ⟨h0.trans e.symm, h1, h2, h3⟩

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Ref
public import proofs.«01_k».proof.Proof.Equal
public import Idealize.ShloMosaic.Adequacy
public import Idealize.ShloMosaic.Init

@[expose] public section

noncomputable section

namespace Cert.Proof

open Idealize.ShloMosaic Idealize.SL.Sem

/-- The run with the values of the result dropped, over any float values. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (run_main (F := F) m ρ)

/-- The two programs' bodies are one text, -/
theorem bodies_eq : (Cert.Kernel.defs₀ (F := Bits)) = Cert.KernelIdeal.defs₀ (F := Bits) := by
  refine congrArg (Defs.onTc (nD := Cert.KernelIdeal.nD) (τ := Cert.KernelIdeal.τ)) (funext fun l => ?_)
  refine Fin.cases (funext fun a => ?_) (fun i => i.elim0) l
  obtain ⟨t, s⟩ := a
  rfl

/-- and so are the programs. -/
theorem defs_eq : (Cert.Kernel.defs (F := Bits)) = Cert.KernelIdeal.defs (F := Bits) :=
  congrArg (Pipeline.defs (Cert.KernelIdeal.pcfgs (F := Bits))) bodies_eq

theorem frame_kernel : Cert.quiescent_Kernel := fun m ρ _ => by
  rw [defs_eq]
  exact frame_run (F := Bits) m ρ

theorem frame_ideal : Cert.quiescent_KernelIdeal := fun m ρ _ => frame_run (F := Ideal) m ρ

theorem frame_reference : Cert.quiescent_ReferenceIdeal := fun m ρ _ =>
  (θ_run Cert.ReferenceIdeal.defs _ _).mono (fun _ h => ⟨fun c => (h.1 c).2, h.2⟩) (Ref.run_main (F := Ideal) m ρ)

theorem claim : Cert.Claim := ⟨Cert.Kernel.Gen.facts, Cert.KernelIdeal.Gen.facts, Cert.ReferenceIdeal.Gen.facts, Equal.preKernel,
  Equal.preReference, frame_kernel, frame_ideal, fun m ρ _ => frame_ideal m ρ trivial, frame_reference,
  fun m ρ _ => frame_reference m ρ trivial, trivial, Equal.algebraic⟩

end Cert.Proof

end
